-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S_ : Shape := ⟨0, ![]⟩
abbrev S1024x512 : Shape := ⟨2, ![1024, 512]⟩
abbrev S16 : Shape := ⟨1, ![16]⟩
abbrev S1 : Shape := ⟨1, ![1]⟩
abbrev S64x512 : Shape := ⟨2, ![64, 512]⟩

abbrev nBuf : Space → Nat
  | .hbm => 17
  | .vmem => 4
  | .smem => 0
  | _ => 0

abbrev bufTy : (tb : Table) → Fin (tcTables nBuf tb) → BufTy
  | .hbm, ⟨0, _⟩ => ⟨S2048x512, .bf16⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1024x512, .bf16⟩
  | .hbm, ⟨16, _⟩ => ⟨S2048x512, .bf16⟩
  | .local _ .vmem, ⟨0, _⟩ => ⟨S1024x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_c : Ref sig .tc := ⟨.hbm, 1, rfl⟩
abbrev main_c_0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_1 : Ref sig .tc := ⟨.hbm, 7, rfl⟩
abbrev main_v5 : Ref sig .tc := ⟨.hbm, 8, rfl⟩
abbrev main_c_2 : Ref sig .tc := ⟨.hbm, 9, rfl⟩
abbrev main_v6 : Ref sig .tc := ⟨.hbm, 10, rfl⟩
abbrev main_c_3 : Ref sig .tc := ⟨.hbm, 11, rfl⟩
abbrev main_v7 : Ref sig .tc := ⟨.hbm, 12, rfl⟩
abbrev main_v8 : Ref sig .tc := ⟨.hbm, 13, rfl⟩
abbrev main_c_4 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_8 : BitVec 32 := 2#32
  let v15 : BitVec 32 := Scalar.muli v6 c2_i32_8
  let v16 : BitVec 32 := Scalar.addi c0_i32 v15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_9 : BitVec 32 := 1#32
  let v17 : BitVec 32 := Scalar.muli v5 c1_i32_9
  let v18 : BitVec 32 := Scalar.addi v16 v17
  v18.toNat
def k0_dev2 (d0 : Dev nD) : Nat :=
  let c0_i32_12 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_11 : BitVec 32 := 2#32
  let v19 : BitVec 32 := Scalar.muli v2 c2_i32_11
  let v20 : BitVec 32 := Scalar.addi c0_i32_12 v19
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_13 : BitVec 32 := 1#32
  let v21 : BitVec 32 := Scalar.muli v7 c1_i32_13
  let v22 : BitVec 32 := Scalar.addi v20 v21
  v22.toNat
def k0_dev3 (d0 : Dev nD) : Nat :=
  let c0_i32_18 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_17 : BitVec 32 := 2#32
  let v23 : BitVec 32 := Scalar.muli v6 c2_i32_17
  let v24 : BitVec 32 := Scalar.addi c0_i32_18 v23
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v25 : BitVec 32 := Scalar.muli v5 c1_i32_19
  let v26 : BitVec 32 := Scalar.addi v24 v25
  v26.toNat
def k0_dev4 (d0 : Dev nD) : Nat :=
  let c0_i32_27 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_26 : BitVec 32 := 2#32
  let v33 : BitVec 32 := Scalar.muli v6 c2_i32_26
  let v34 : BitVec 32 := Scalar.addi c0_i32_27 v33
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_28 : BitVec 32 := 1#32
  let v35 : BitVec 32 := Scalar.muli v5 c1_i32_28
  let v36 : BitVec 32 := Scalar.addi v34 v35
  v36.toNat
def k0_dev5 (d0 : Dev nD) : Nat :=
  let c0_i32_35 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_34 : BitVec 32 := 2#32
  let v43 : BitVec 32 := Scalar.muli v6 c2_i32_34
  let v44 : BitVec 32 := Scalar.addi c0_i32_35 v43
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_36 : BitVec 32 := 1#32
  let v45 : BitVec 32 := Scalar.muli v5 c1_i32_36
  let v46 : BitVec 32 := Scalar.addi v44 v45
  v46.toNat
def k0_dev6 (d0 : Dev nD) : Nat :=
  let c0_i32_42 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_41 : BitVec 32 := 2#32
  let v53 : BitVec 32 := Scalar.muli v6 c2_i32_41
  let v54 : BitVec 32 := Scalar.addi c0_i32_42 v53
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_43 : BitVec 32 := 1#32
  let v55 : BitVec 32 := Scalar.muli v5 c1_i32_43
  let v56 : BitVec 32 := Scalar.addi v54 v55
  v56.toNat
def k0_dev7 (d0 : Dev nD) : Nat :=
  let c0_i32_49 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_48 : BitVec 32 := 2#32
  let v63 : BitVec 32 := Scalar.muli v6 c2_i32_48
  let v64 : BitVec 32 := Scalar.addi c0_i32_49 v63
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_50 : BitVec 32 := 1#32
  let v65 : BitVec 32 := Scalar.muli v5 c1_i32_50
  let v66 : BitVec 32 := Scalar.addi v64 v65
  v66.toNat
def k0_dev8 (d0 : Dev nD) : Nat :=
  let c0_i32_56 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_55 : BitVec 32 := 2#32
  let v73 : BitVec 32 := Scalar.muli v6 c2_i32_55
  let v74 : BitVec 32 := Scalar.addi c0_i32_56 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_57 : BitVec 32 := 1#32
  let v75 : BitVec 32 := Scalar.muli v5 c1_i32_57
  let v76 : BitVec 32 := Scalar.addi v74 v75
  v76.toNat
def k0_dev9 (d0 : Dev nD) : Nat :=
  let c0_i32_63 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_62 : BitVec 32 := 2#32
  let v83 : BitVec 32 := Scalar.muli v6 c2_i32_62
  let v84 : BitVec 32 := Scalar.addi c0_i32_63 v83
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_64 : BitVec 32 := 1#32
  let v85 : BitVec 32 := Scalar.muli v5 c1_i32_64
  let v86 : BitVec 32 := Scalar.addi v84 v85
  v86.toNat
def k0_dev10 (d0 : Dev nD) : Nat :=
  let c0_i32_70 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_69 : BitVec 32 := 2#32
  let v93 : BitVec 32 := Scalar.muli v6 c2_i32_69
  let v94 : BitVec 32 := Scalar.addi c0_i32_70 v93
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_71 : BitVec 32 := 1#32
  let v95 : BitVec 32 := Scalar.muli v5 c1_i32_71
  let v96 : BitVec 32 := Scalar.addi v94 v95
  v96.toNat
def k0_dev11 (d0 : Dev nD) : Nat :=
  let c0_i32_77 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_76 : BitVec 32 := 2#32
  let v103 : BitVec 32 := Scalar.muli v6 c2_i32_76
  let v104 : BitVec 32 := Scalar.addi c0_i32_77 v103
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_78 : BitVec 32 := 1#32
  let v105 : BitVec 32 := Scalar.muli v5 c1_i32_78
  let v106 : BitVec 32 := Scalar.addi v104 v105
  v106.toNat
def k0_dev12 (d0 : Dev nD) : Nat :=
  let c0_i32_84 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_83 : BitVec 32 := 2#32
  let v113 : BitVec 32 := Scalar.muli v6 c2_i32_83
  let v114 : BitVec 32 := Scalar.addi c0_i32_84 v113
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_85 : BitVec 32 := 1#32
  let v115 : BitVec 32 := Scalar.muli v5 c1_i32_85
  let v116 : BitVec 32 := Scalar.addi v114 v115
  v116.toNat
def k0_dev13 (d0 : Dev nD) : Nat :=
  let c0_i32_91 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_90 : BitVec 32 := 2#32
  let v123 : BitVec 32 := Scalar.muli v6 c2_i32_90
  let v124 : BitVec 32 := Scalar.addi c0_i32_91 v123
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_92 : BitVec 32 := 1#32
  let v125 : BitVec 32 := Scalar.muli v5 c1_i32_92
  let v126 : BitVec 32 := Scalar.addi v124 v125
  v126.toNat
def k0_dev14 (d0 : Dev nD) : Nat :=
  let c0_i32_98 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_97 : BitVec 32 := 2#32
  let v133 : BitVec 32 := Scalar.muli v6 c2_i32_97
  let v134 : BitVec 32 := Scalar.addi c0_i32_98 v133
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_99 : BitVec 32 := 1#32
  let v135 : BitVec 32 := Scalar.muli v5 c1_i32_99
  let v136 : BitVec 32 := Scalar.addi v134 v135
  v136.toNat
def k0_dev15 (d0 : Dev nD) : Nat :=
  let c0_i32_105 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_104 : BitVec 32 := 2#32
  let v143 : BitVec 32 := Scalar.muli v6 c2_i32_104
  let v144 : BitVec 32 := Scalar.addi c0_i32_105 v143
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_106 : BitVec 32 := 1#32
  let v145 : BitVec 32 := Scalar.muli v5 c1_i32_106
  let v146 : BitVec 32 := Scalar.addi v144 v145
  v146.toNat
def k0_dev16 (d0 : Dev nD) : Nat :=
  let c0_i32_112 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_111 : BitVec 32 := 2#32
  let v153 : BitVec 32 := Scalar.muli v6 c2_i32_111
  let v154 : BitVec 32 := Scalar.addi c0_i32_112 v153
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_113 : BitVec 32 := 1#32
  let v155 : BitVec 32 := Scalar.muli v5 c1_i32_113
  let v156 : BitVec 32 := Scalar.addi v154 v155
  v156.toNat
def k0_dev17 (d0 : Dev nD) : Nat :=
  let c0_i32_119 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_118 : BitVec 32 := 2#32
  let v163 : BitVec 32 := Scalar.muli v6 c2_i32_118
  let v164 : BitVec 32 := Scalar.addi c0_i32_119 v163
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_120 : BitVec 32 := 1#32
  let v165 : BitVec 32 := Scalar.muli v5 c1_i32_120
  let v166 : BitVec 32 := Scalar.addi v164 v165
  v166.toNat
def k0_dev18 (d0 : Dev nD) : Nat :=
  let c0_i32_126 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_125 : BitVec 32 := 2#32
  let v173 : BitVec 32 := Scalar.muli v6 c2_i32_125
  let v174 : BitVec 32 := Scalar.addi c0_i32_126 v173
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_127 : BitVec 32 := 1#32
  let v175 : BitVec 32 := Scalar.muli v5 c1_i32_127
  let v176 : BitVec 32 := Scalar.addi v174 v175
  v176.toNat
def k0_off1 (d0 : Dev nD) (c0_i32_140 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v191 : BitVec 32 := Scalar.addi v8 c0_i32_140
  let v195 : Index := Scalar.indexCast v191
  let c0_145 : Index := 0#32
  ![v195.toNat, 0]
def k0_off2 (d0 : Dev nD) (c0_i32_140 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v191 : BitVec 32 := Scalar.addi v8 c0_i32_140
  let c0_i32_151 : BitVec 32 := 0#32
  ![v191.toNat, 0]
def k0_dev19 (d0 : Dev nD) : Nat :=
  let c0_i32_149 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_148 : BitVec 32 := 2#32
  let v197 : BitVec 32 := Scalar.muli v2 c2_i32_148
  let v198 : BitVec 32 := Scalar.addi c0_i32_149 v197
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_150 : BitVec 32 := 1#32
  let v199 : BitVec 32 := Scalar.muli v7 c1_i32_150
  let v200 : BitVec 32 := Scalar.addi v198 v199
  v200.toNat
def k0_dev20 (d0 : Dev nD) : Nat :=
  let c0_i32_170 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_169 : BitVec 32 := 2#32
  let v221 : BitVec 32 := Scalar.muli v2 c2_i32_169
  let v222 : BitVec 32 := Scalar.addi c0_i32_170 v221
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_171 : BitVec 32 := 1#32
  let v223 : BitVec 32 := Scalar.muli v7 c1_i32_171
  let v224 : BitVec 32 := Scalar.addi v222 v223
  v224.toNat
def k0_dev21 (d0 : Dev nD) : Nat :=
  let c0_i32_191 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_190 : BitVec 32 := 2#32
  let v245 : BitVec 32 := Scalar.muli v2 c2_i32_190
  let v246 : BitVec 32 := Scalar.addi c0_i32_191 v245
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_192 : BitVec 32 := 1#32
  let v247 : BitVec 32 := Scalar.muli v7 c1_i32_192
  let v248 : BitVec 32 := Scalar.addi v246 v247
  v248.toNat
def k0_dev22 (d0 : Dev nD) : Nat :=
  let c0_i32_212 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_211 : BitVec 32 := 2#32
  let v269 : BitVec 32 := Scalar.muli v2 c2_i32_211
  let v270 : BitVec 32 := Scalar.addi c0_i32_212 v269
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_213 : BitVec 32 := 1#32
  let v271 : BitVec 32 := Scalar.muli v7 c1_i32_213
  let v272 : BitVec 32 := Scalar.addi v270 v271
  v272.toNat
def k0_dev23 (d0 : Dev nD) : Nat :=
  let c0_i32_233 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_232 : BitVec 32 := 2#32
  let v293 : BitVec 32 := Scalar.muli v2 c2_i32_232
  let v294 : BitVec 32 := Scalar.addi c0_i32_233 v293
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_234 : BitVec 32 := 1#32
  let v295 : BitVec 32 := Scalar.muli v7 c1_i32_234
  let v296 : BitVec 32 := Scalar.addi v294 v295
  v296.toNat
def k0_dev24 (d0 : Dev nD) : Nat :=
  let c0_i32_254 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_253 : BitVec 32 := 2#32
  let v317 : BitVec 32 := Scalar.muli v2 c2_i32_253
  let v318 : BitVec 32 := Scalar.addi c0_i32_254 v317
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_255 : BitVec 32 := 1#32
  let v319 : BitVec 32 := Scalar.muli v7 c1_i32_255
  let v320 : BitVec 32 := Scalar.addi v318 v319
  v320.toNat
def k0_dev25 (d0 : Dev nD) : Nat :=
  let c0_i32_275 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_274 : BitVec 32 := 2#32
  let v341 : BitVec 32 := Scalar.muli v2 c2_i32_274
  let v342 : BitVec 32 := Scalar.addi c0_i32_275 v341
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_276 : BitVec 32 := 1#32
  let v343 : BitVec 32 := Scalar.muli v7 c1_i32_276
  let v344 : BitVec 32 := Scalar.addi v342 v343
  v344.toNat
def k0_dev26 (d0 : Dev nD) : Nat :=
  let c0_i32_296 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_295 : BitVec 32 := 2#32
  let v365 : BitVec 32 := Scalar.muli v2 c2_i32_295
  let v366 : BitVec 32 := Scalar.addi c0_i32_296 v365
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_297 : BitVec 32 := 1#32
  let v367 : BitVec 32 := Scalar.muli v7 c1_i32_297
  let v368 : BitVec 32 := Scalar.addi v366 v367
  v368.toNat
def k0_dev27 (d0 : Dev nD) : Nat :=
  let c0_i32_317 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_316 : BitVec 32 := 2#32
  let v389 : BitVec 32 := Scalar.muli v2 c2_i32_316
  let v390 : BitVec 32 := Scalar.addi c0_i32_317 v389
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_318 : BitVec 32 := 1#32
  let v391 : BitVec 32 := Scalar.muli v7 c1_i32_318
  let v392 : BitVec 32 := Scalar.addi v390 v391
  v392.toNat
def k0_dev28 (d0 : Dev nD) : Nat :=
  let c0_i32_338 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_337 : BitVec 32 := 2#32
  let v413 : BitVec 32 := Scalar.muli v2 c2_i32_337
  let v414 : BitVec 32 := Scalar.addi c0_i32_338 v413
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_339 : BitVec 32 := 1#32
  let v415 : BitVec 32 := Scalar.muli v7 c1_i32_339
  let v416 : BitVec 32 := Scalar.addi v414 v415
  v416.toNat
def k0_dev29 (d0 : Dev nD) : Nat :=
  let c0_i32_359 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_358 : BitVec 32 := 2#32
  let v437 : BitVec 32 := Scalar.muli v2 c2_i32_358
  let v438 : BitVec 32 := Scalar.addi c0_i32_359 v437
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_360 : BitVec 32 := 1#32
  let v439 : BitVec 32 := Scalar.muli v7 c1_i32_360
  let v440 : BitVec 32 := Scalar.addi v438 v439
  v440.toNat
def k0_dev30 (d0 : Dev nD) : Nat :=
  let c0_i32_380 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_379 : BitVec 32 := 2#32
  let v461 : BitVec 32 := Scalar.muli v2 c2_i32_379
  let v462 : BitVec 32 := Scalar.addi c0_i32_380 v461
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_381 : BitVec 32 := 1#32
  let v463 : BitVec 32 := Scalar.muli v7 c1_i32_381
  let v464 : BitVec 32 := Scalar.addi v462 v463
  v464.toNat
def k0_dev31 (d0 : Dev nD) : Nat :=
  let c0_i32_401 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_400 : BitVec 32 := 2#32
  let v485 : BitVec 32 := Scalar.muli v2 c2_i32_400
  let v486 : BitVec 32 := Scalar.addi c0_i32_401 v485
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_402 : BitVec 32 := 1#32
  let v487 : BitVec 32 := Scalar.muli v7 c1_i32_402
  let v488 : BitVec 32 := Scalar.addi v486 v487
  v488.toNat
def k0_dev32 (d0 : Dev nD) : Nat :=
  let c0_i32_422 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_421 : BitVec 32 := 2#32
  let v509 : BitVec 32 := Scalar.muli v2 c2_i32_421
  let v510 : BitVec 32 := Scalar.addi c0_i32_422 v509
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_423 : BitVec 32 := 1#32
  let v511 : BitVec 32 := Scalar.muli v7 c1_i32_423
  let v512 : BitVec 32 := Scalar.addi v510 v511
  v512.toNat
def k0_dev33 (d0 : Dev nD) : Nat :=
  let c0_i32_443 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_442 : BitVec 32 := 2#32
  let v533 : BitVec 32 := Scalar.muli v2 c2_i32_442
  let v534 : BitVec 32 := Scalar.addi c0_i32_443 v533
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_444 : BitVec 32 := 1#32
  let v535 : BitVec 32 := Scalar.muli v7 c1_i32_444
  let v536 : BitVec 32 := Scalar.addi v534 v535
  v536.toNat
def k0_dev34 (d0 : Dev nD) : Nat :=
  let c0_i32_464 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_463 : BitVec 32 := 2#32
  let v557 : BitVec 32 := Scalar.muli v2 c2_i32_463
  let v558 : BitVec 32 := Scalar.addi c0_i32_464 v557
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_465 : BitVec 32 := 1#32
  let v559 : BitVec 32 := Scalar.muli v7 c1_i32_465
  let v560 : BitVec 32 := Scalar.addi v558 v559
  v560.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S2x2048x512 : Shape := ⟨3, ![2, 2048, 512]⟩
abbrev S_ : Shape := ⟨0, ![]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S2x2048x512, .bf16⟩
  | .hbm, ⟨2, _⟩ => ⟨S2x2048x512, .f32⟩
  | .hbm, ⟨3, _⟩ => ⟨S_, .f32⟩
  | .hbm, ⟨4, _⟩ => ⟨S2048x512, .f32⟩
  | .hbm, ⟨5, _⟩ => ⟨S2048x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Steps.lean ====
module

public import proofs.«01_k».proof.Proof.Gen.KernelIdeal.Skeleton
public import proofs.«01_k».proof.Proof.Gen.KernelIdeal.Points

/-! The kernel's body, read as a prologue and three passes over the sixteen chunks of 64 rows. -/

@[expose] public section

noncomputable section

namespace Cert.Proof

open Idealize.ShloMosaic Idealize.SL.Sem
open Cert.KernelIdeal Cert.KernelIdeal.Gen

variable {F : FTy → Type} [FloatOps F]

/-- A step run for each chunk of a list, in the list's order. -/
def passOver (f : Fin 16 → Prog (TpuEff nD τ sig (Elt F) Λ₀ .tc) PUnit) : List (Fin 16) → Prog (TpuEff nD τ sig (Elt F) Λ₀ .tc) PUnit
  | [] => .ret ⟨⟩
  | k :: ks => f k >>= fun _ => passOver f ks

/-- The sixteen chunks, in order. -/
def chunks : List (Fin 16) := [0, 1, 2, 3, 4, 5, 6, 7, 8, 9, 10, 11, 12, 13, 14, 15]

/-- Chunk `k` of a half, rows `64 k` to `64 k + 63`, lies within it. -/
theorem half_inb (k : Fin 16) : ∀ a, (![64 * k.val, 0] : Fin 2 → Nat) a + S64x512.size a ≤ S1024x512.size a := by
  revert k; decide
/-- Its rows are whole words. -/
theorem half_words (k : Fin 16) : (Rect.unit (s := S1024x512) ![64 * k.val, 0] S64x512.size (half_inb k)).WholeWords (EltTy.packing .bf16) := by
  revert k; decide
/-- Semaphore `k` lies within its array. -/
theorem sem_inb (k : Fin 16) : ∀ a, (![k.val] : Fin 1 → Nat) a + S1.size a ≤ S16.size a := by
  revert k; decide

/-- Chunk `k` of a half, as a rectangle. -/
abbrev halfRect (k : Fin 16) : Rect S1024x512 := Rect.unit (s := S1024x512) ![64 * k.val, 0] S64x512.size (half_inb k)
/-- Chunk `k` of the half of the result that device `d` computes, as a rectangle. -/
abbrev outRect (d : Dev nD) (k : Fin 16) : Rect S2048x512 :=
  Rect.unit (s := S2048x512) (k0_off2 d (BitVec.ofNat 32 (64 * k.val))) S64x512.size (k0_off2_inb d k)
/-- Semaphore `k` of an array. -/
abbrev semAt (a : DmaSems sig S16) (k : Fin 16) : DmaSem sig :=
  ((a.slice (Rect.unit (s := S16) ![k.val] S1.size (sem_inb k))).squeeze S_ squeezes_S1_S_).sem

/-- Chunk `k` of a buffer of half size. -/
abbrev halfChunk (v : Memref sig .tc .vmem S1024x512 .bf16) (k : Fin 16) : Memref sig .tc .vmem S64x512 .bf16 :=
  v.slice (halfRect k) (fun _ => rfl)
/-- Chunk `k` of the half of a result that device `d` computes. -/
abbrev outChunk (v : Memref sig .tc .vmem S2048x512 .bf16) (d : Dev nD) (k : Fin 16) : Memref sig .tc .vmem S64x512 .bf16 :=
  v.slice (outRect d k) (fun _ => rfl)

/-- The neighbour along the first axis. -/
abbrev xDev (d : Dev nD) : Dev nD := ⟨k0_dev1 d, k0_dev1_lt d⟩
/-- The neighbour along the second axis. -/
abbrev yDev (d : Dev nD) : Dev nD := ⟨k0_dev2 d, k0_dev2_lt d⟩

section Body

variable (arg0 : Memref sig .tc .vmem S1024x512 .bf16) (harg0 : arg0.IsWhole) (arg1 : Memref sig .tc .vmem S2048x512 .bf16) (harg1 : arg1.IsWhole)
  (arg2 : Memref sig .tc .vmem S1024x512 .bf16) (harg2 : arg2.IsWhole) (arg3 : Memref sig .tc .vmem S1024x512 .bf16) (harg3 : arg3.IsWhole)
  (arg4 arg5 arg6 arg7 : DmaSems sig S16)

/-- The barrier's semaphore. -/
abbrev barS : Sem sig := (SemArray.scalar (sig.barrier 0 rfl) : Sems sig S_).sem

/-- Copy the input to the send buffer, then meet both neighbours at the barrier. -/
def prologue (d : Dev nD) : Prog (TpuEff nD τ sig (Elt F) Λ₀ .tc) PUnit := do
  let v9 : Vec F S1024x512 .bf16 ← Prog.lift (.load arg0 (Rect.unit (s := S1024x512) ![0, 0] S1024x512.size inb_S1024x512_S1024x512_0_0).toLoadRect (View.loadsAt_vmem h_S1024x512))
  let _v11 : Vec F S1024x512 .bf16 ← Prog.lift (.load arg2 (Rect.unit (s := S1024x512) ![0, 0] S1024x512.size inb_S1024x512_S1024x512_0_0).toLoadRect (View.loadsAt_vmem h_S1024x512))
  Prog.lift (.store arg2 (Rect.unit (s := S1024x512) ![0, 0] S1024x512.size inb_S1024x512_S1024x512_0_0) (k0_pay1 v9) Finset.univ (View.stores_vmem h_S1024x512 (harg2.storeExact_slice rfl _ packedbf16_S1024x512_S1024x512_0_0) (fun _ => rfl)) (.inl rfl))
  semSignalWord (xDev d) barS 1#32
  semSignalWord (yDev d) barS 1#32
  semWaitWord barS 2#32

/-- Start the copy of chunk `k` of the send buffer to the `x` neighbour's receive buffer. -/
def sendStep (d : Dev nD) (k : Fin 16) : Prog (TpuEff nD τ sig (Elt F) Λ₀ .tc) PUnit :=
  Prog.lift (.enqueueDma (halfChunk arg2 k) (.remote (Dev.tc (xDev d)) (halfChunk arg3 k) (.dma (semAt arg4 k))) (.dma (semAt arg5 k))
    (harg2.wordExact_slice rfl _ (half_words k)) (harg3.wordExact_slice rfl _ (half_words k)) ⟨⟨rfl, Or.inl rfl⟩, trivial⟩)

/-- Wait for chunk `k` of the `x` neighbour, add, store the sum in the result, start the copy of the sum to the `y` neighbour. -/
def sumStep (d : Dev nD) (k : Fin 16) : Prog (TpuEff nD τ sig (Elt F) Λ₀ .tc) PUnit := do
  Prog.lift (.waitDma2 (semAt arg5 k) (halfChunk arg2 k) (halfChunk arg3 k) (harg2.wordExact_slice rfl _ (half_words k)) (harg3.wordExact_slice rfl _ (half_words k)))
  let a : Vec F S64x512 .bf16 ← Prog.lift (.load arg2 (halfRect k).toLoadRect (View.loadsAt_vmem h_S64x512))
  let b : Vec F S64x512 .bf16 ← Prog.lift (.load arg3 (halfRect k).toLoadRect (View.loadsAt_vmem h_S64x512))
  let _c : Vec F S64x512 .bf16 ← Prog.lift (.load arg1 (outRect d k).toLoadRect (View.loadsAt_vmem h_S64x512))
  Prog.lift (.store arg1 (outRect d k) (addf a b : FVec F S64x512 .bf16) Finset.univ (View.stores_vmem h_S64x512 (harg1.storeExact_slice rfl _ (k0_off1_packedbf16 d k)) (fun _ => rfl)) (.inl rfl))
  Prog.lift (.enqueueDma (outChunk arg1 d k) (.remote (Dev.tc (yDev d)) (outChunk arg1 d k) (.dma (semAt arg6 k))) (.dma (semAt arg7 k))
    (harg1.wordExact_slice rfl _ (k0_off2_wordsbf16 d k)) (harg1.wordExact_slice rfl _ (k0_off2_wordsbf16 d k)) ⟨⟨rfl, Or.inl rfl⟩, trivial⟩)

/-- Wait for the two sends of chunk `k`, then for the `y` neighbour's chunk. -/
def doneStep (d : Dev nD) (k : Fin 16) : Prog (TpuEff nD τ sig (Elt F) Λ₀ .tc) PUnit := do
  Prog.lift (.waitDma2 (semAt arg4 k) (halfChunk arg3 k) (halfChunk arg2 k) (harg3.wordExact_slice rfl _ (half_words k)) (harg2.wordExact_slice rfl _ (half_words k)))
  Prog.lift (.waitDma2 (semAt arg6 k) (outChunk arg1 d k) (outChunk arg1 d k) (harg1.wordExact_slice rfl _ (k0_off2_wordsbf16 d k)) (harg1.wordExact_slice rfl _ (k0_off2_wordsbf16 d k)))
  Prog.lift (.waitDma2 (semAt arg7 k) (outChunk arg1 d k) (outChunk arg1 d k) (harg1.wordExact_slice rfl _ (k0_off2_wordsbf16 d k)) (harg1.wordExact_slice rfl _ (k0_off2_wordsbf16 d k)))

/-- The whole body. -/
def steps : Prog (TpuEff nD τ sig (Elt F) Λ₀ .tc) PUnit := do
  let d : Dev nD ← Prog.lift .deviceId
  prologue arg0 arg2 harg2 d
  passOver (sendStep arg2 harg2 arg3 harg3 arg4 arg5 d) chunks
  passOver (sumStep arg1 harg1 arg2 harg2 arg3 harg3 arg5 arg6 arg7 d) chunks
  passOver (doneStep arg1 harg1 arg2 harg2 arg3 harg3 arg4 arg6 arg7 d) chunks

set_option maxRecDepth 65536 in
/-- The kernel's body is these steps. -/
theorem body_eq_steps : cc0_body (F := F) arg0 harg0 arg1 harg1 arg2 harg2 arg3 harg3 arg4 arg5 arg6 arg7
    = steps arg0 arg1 harg1 arg2 harg2 arg3 harg3 arg4 arg5 arg6 arg7 := rfl

end Body

end Cert.Proof
end
-- ==== Proof.Protocol.lean ====
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Tactic

/-! The devices' protocol: their neighbours, the cells they meet on, what each payment carries, and the levels. -/

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's own algebra: rounds with two duties, named by a truth value, on a cell. -/
abbrev UB : Type := URounds (GSem nD τ sig) Bool
/-- The algebra of the launch's own protocol beside that of the rounds. -/
abbrev UU : Type := UR sig nD τ × UB

local notation "𝕄" => MT nD τ sig Unit (Elt F) ℕ UU ℕ

/-- Where the launch's protocol lies in the whole. -/
abbrev EP : Emb (UR sig nD τ) (MT nD τ sig Unit (Elt F) ℕ UU ℕ) := embL
/-- Where the rounds lie in the whole. -/
abbrev ER : Emb UB (MT nD τ sig Unit (Elt F) ℕ UU ℕ) := embR

/-! ## The mesh -/

/-- The `x` neighbour's `x` neighbour is the device itself. -/
theorem xx (c : Dev nD) : xDev (xDev c) = c := by revert c; decide
/-- The `y` neighbour's `y` neighbour is the device itself. -/
theorem yy (c : Dev nD) : yDev (yDev c) = c := by revert c; decide
/-- The `x` neighbour's number. -/
theorem xDev_val (c : Dev nD) : (xDev c).val = c.val % 2 + 2 - 2 * (c.val / 2) := k0_dev1_eq c
/-- The `y` neighbour's number. -/
theorem yDev_val (c : Dev nD) : (yDev c).val = 2 * (c.val / 2) + 1 - c.val % 2 := k0_dev2_eq c

/-- The neighbour map along `x` as a bijection of the devices. -/
def xEquiv : Dev nD ≃ Dev nD := ⟨xDev, xDev, xx, xx⟩
/-- The neighbour map along `y` as a bijection of the devices. -/
def yEquiv : Dev nD ≃ Dev nD := ⟨yDev, yDev, yy, yy⟩

/-! ## Buffers and cells -/

/-- The input's buffer. -/
abbrev iM : Memref sig .tc .vmem S1024x512 .bf16 := Memref.whole cc0_stg0_0
/-- The result's buffer. -/
abbrev oM : Memref sig .tc .vmem S2048x512 .bf16 := Memref.whole cc0_stg1_0
/-- The send buffer. -/
abbrev sM : Memref sig .tc .vmem S1024x512 .bf16 := Memref.whole cc0_scratch0
/-- The receive buffer. -/
abbrev rM : Memref sig .tc .vmem S1024x512 .bf16 := Memref.whole cc0_scratch1

/-- Copy semaphore `k` of array `j`: sends to the `x` neighbour, arrivals from it, sends to the `y` neighbour, arrivals from it. -/
def dsem (j : Fin 4) (k : Fin 16) : DmaSem sig := ⟨2 + 16 * j.val + k.val, by show _ < 66; omega⟩
/-- The array that a copy semaphore is of. -/
def kindOf (q : DmaSem sig) : Fin 4 := ⟨(q.val - 2) / 16 % 4, Nat.mod_lt _ (by decide)⟩
/-- The chunk that a copy semaphore is of. -/
def chunkOf (q : DmaSem sig) : Fin 16 := ⟨(q.val - 2) % 16, Nat.mod_lt _ (by decide)⟩
/-- Copy semaphore `k` of array `j` is of array `j`. -/
theorem kindOf_dsem (j : Fin 4) (k : Fin 16) : kindOf (dsem j k) = j := by revert j k; decide
/-- Copy semaphore `k` of array `j` is of chunk `k`. -/
theorem chunkOf_dsem (j : Fin 4) (k : Fin 16) : chunkOf (dsem j k) = k := by revert j k; decide

/-- The kernel's first array of semaphores: sends along `x`. -/
theorem semAt2 (k : Fin 16) : semAt cc0_scratch2 k = dsem 0 k := by revert k; decide
/-- The kernel's second array of semaphores: arrivals along `x`. -/
theorem semAt3 (k : Fin 16) : semAt cc0_scratch3 k = dsem 1 k := by revert k; decide
/-- The kernel's third array of semaphores: sends along `y`. -/
theorem semAt4 (k : Fin 16) : semAt cc0_scratch4 k = dsem 2 k := by revert k; decide
/-- The kernel's fourth array of semaphores: arrivals along `y`. -/
theorem semAt5 (k : Fin 16) : semAt cc0_scratch5 k = dsem 3 k := by revert k; decide

/-- Device `c`'s barrier cell. -/
abbrev barCell (c : Dev nD) : GSem nD τ sig := ((c : Thread nD τ), .reg barS)
/-- Device `c`'s copy cell for chunk `k` of array `j`. -/
abbrev dCell (c : Dev nD) (j : Fin 4) (k : Fin 16) : GSem nD τ sig := ((c : Thread nD τ), .dma (dsem j k))

/-- What a copy of one chunk credits. -/
def N : ℕ := (halfChunk sM 0).view.dmaCredit
/-- A copy credits something. -/
theorem N_pos : 0 < N := View.dmaCredit_pos _ (by decide)
/-- A chunk of the send buffer credits that much. -/
theorem N_half_s (k : Fin 16) : (halfChunk sM k).view.dmaCredit = N := rfl
/-- A chunk of the receive buffer credits that much. -/
theorem N_half_r (k : Fin 16) : (halfChunk rM k).view.dmaCredit = N := rfl
/-- A chunk of the result credits that much. -/
theorem N_out (d : Dev nD) (k : Fin 16) : (outChunk oM d k).view.dmaCredit = N := rfl

/-! ## Contents -/

/-- Every device's half slice. -/
abbrev Halves (F : FTy → Type) : Type := Dev nD → Vec F S1024x512 .bf16
/-- The sum of a device's half slice with its `x` neighbour's. -/
def sumHalf (X : Halves F) (d : Dev nD) : Vec F S1024x512 .bf16 := (addf (X d) (X (xDev d)) : FVec F S1024x512 .bf16)

/-- The device of the same `x` coordinate whose half holds row `r`. -/
def rowDev (c : Dev nD) (r : Fin 2048) : Dev nD := ⟨2 * (c.val / 2) + r.val / 1024, by have := c.isLt; have := r.isLt; show _ < 4; have : c.val < 4 := c.isLt; omega⟩
/-- Where in that half the row lies. -/
def rowIdx (i : S2048x512.Idx) : S1024x512.Idx :=
  fun a => match a with
    | ⟨0, _⟩ => (⟨(i 0).val % 1024, Nat.mod_lt _ (by decide)⟩ : Fin 1024)
    | ⟨1, _⟩ => (⟨(i 1).val, (i 1).isLt⟩ : Fin 512)

/-- What device `c` ends with: each half the sum of the half slices of the device that computes it. -/
def outV (X : Halves F) (c : Dev nD) : Vec F S2048x512 .bf16 := fun i => sumHalf X (rowDev c (i 0)) (rowIdx i)

/-- Devices of the same `x` coordinate end with the same result. -/
theorem outV_y (X : Halves F) (c : Dev nD) : outV X (yDev c) = outV X c := by
  funext i
  have h : rowDev (yDev c) (i 0) = rowDev c (i 0) := Fin.ext (by
    show 2 * ((yDev c).val / 2) + _ = 2 * (c.val / 2) + _
    rw [yDev_val]; have := c.isLt; omega)
  unfold outV; rw [h]

/-! ## Chunks owned -/

/-- Chunk `k` of device `c`'s send buffer, a share of it. -/
def sPts (q : PosShare TreeShare) (c : Dev nD) (k : Fin 16) (f : Vec F S1024x512 .bf16) : sProp 𝕄 :=
  (halfChunk sM k).view.loc (c : Thread nD τ) ↦[(halfChunk sM k).view.set]{q} f
/-- Chunk `k` of device `c`'s receive buffer. -/
def rPts (c : Dev nD) (k : Fin 16) (f : Vec F S1024x512 .bf16) : sProp 𝕄 :=
  (halfChunk rM k).view.loc (c : Thread nD τ) ↦[(halfChunk rM k).view.set]{fullShare} f
/-- Chunk `k` of the half of device `c`'s result that device `d` computes. -/
def oPts (c d : Dev nD) (k : Fin 16) (f : Vec F S2048x512 .bf16) : sProp 𝕄 :=
  (outChunk oM d k).view.loc (c : Thread nD τ) ↦[(outChunk oM d k).view.set]{fullShare} f

/-- A chunk of the send buffer may be a payment. -/
instance sPts_storable (q) (c : Dev nD) (k) (f) : BI.Storable (upEmb : UEmb _ 𝕄) (sPts (F := F) q c k f) := by unfold sPts; infer_instance
/-- A chunk of the receive buffer may be a payment. -/
instance rPts_storable (c : Dev nD) (k) (f) : BI.Storable (upEmb : UEmb _ 𝕄) (rPts (F := F) c k f) := by unfold rPts; infer_instance
/-- A chunk of the result may be a payment. -/
instance oPts_storable (c d : Dev nD) (k) (f) : BI.Storable (upEmb : UEmb _ 𝕄) (oPts (F := F) c d k f) := by unfold oPts; infer_instance

/-! ## The schedule -/

/-- What the `x` neighbour pays at device `c`'s barrier: its receive buffer, chunk by chunk, and its arrival cells ready. -/
def barPayX (c : Dev nD) : sProp 𝕄 :=
  bigSepL chunks fun k => iprop((∃ f, rPts (xDev c) k f) ∗ reached ER (dCell (xDev c) 1 k) 0)
/-- What the `y` neighbour pays: the half of its result that `c` computes, chunk by chunk, and its arrival cells ready. -/
def barPayY (c : Dev nD) : sProp 𝕄 :=
  bigSepL chunks fun k => iprop((∃ f, oPts (yDev c) c k f) ∗ reached ER (dCell (yDev c) 3 k) 0)

/-- What a copy's completion gives back to device `c`. -/
def copyPay (X : Halves F) (c : Dev nD) (j : Fin 4) (k : Fin 16) : sProp 𝕄 :=
  if j = 0 then sPts fullShare.left c k (X c)
  else if j = 1 then rPts c k (X (xDev c))
  else if j = 2 then oPts c c k (outV X c)
  else oPts c (yDev c) k (outV X c)

/-- A list of payments may be a payment. -/
instance bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => rw [bigSepL_nil]; exact (inferInstance : BI.Storable (upEmb : UEmb _ 𝕄) (iprop(emp) : sProp 𝕄))
  | cons i l ih => rw [bigSepL_cons]; exact (inferInstance : BI.Storable (upEmb : UEmb _ 𝕄) (iprop(Φ i ∗ bigSepL l Φ) : sProp 𝕄))

/-- One round: two duties on a barrier cell, one on each copy cell. -/
def Rd (X : Halves F) : Rounds.Schedule (GSem nD τ sig) Bool 𝕄 where
  duties g r := if r = 0 then (match g.2 with | .reg _ => Finset.univ | .dma _ => {false}) else ∅
  unitless _ := False
  amount g _ _ := match g.2 with | .reg _ => 1 | .dma _ => N
  payload g _ d := match g.2 with
    | .reg _ => if d then barPayY g.1.1 else barPayX g.1.1
    | .dma q => copyPay X g.1.1 (kindOf q) (chunkOf q)
  amount_pos g _ _ _ := by
    rcases g with ⟨t, s | q⟩
    · exact Nat.one_pos
    · exact N_pos

/-- Every payment of the schedule may be one. -/
instance Rd_storable (X : Halves F) (g : GSem nD τ sig) (r : ℕ) (d : Bool) : BI.Storable (upEmb : UEmb _ 𝕄) ((Rd (F := F) X).payload g r d) := by
  rcases g with ⟨t, s | q⟩
  · show BI.Storable upEmb (if d then barPayY t.1 else barPayX t.1)
    unfold barPayX barPayY; split <;> infer_instance
  · show BI.Storable upEmb (copyPay X t.1 (kindOf q) (chunkOf q))
    unfold copyPay; (repeat' split) <;> infer_instance

section Sched

variable (X : Halves F) (c : Dev nD) (j : Fin 4) (k : Fin 16)

/-- A barrier cell has both duties. -/
theorem duties_bar : (Rd X).duties (barCell c) 0 = Finset.univ := rfl
/-- A copy cell has one duty. -/
theorem duties_copy : (Rd X).duties (dCell c j k) 0 = {false} := rfl
/-- No cell has a duty after the first round. -/
theorem duties_later (g : GSem nD τ sig) : ∀ r, 1 ≤ r → (Rd X).duties g r = ∅ := fun r hr => if_neg (by omega)
/-- A duty at a barrier is one unit. -/
theorem amount_bar (d : Bool) : (Rd X).amount (barCell c) 0 d = 1 := rfl
/-- A duty on a copy cell is one copy's credit. -/
theorem amount_copy (d : Bool) : (Rd X).amount (dCell c j k) 0 d = N := rfl
/-- A barrier's round is two units. -/
theorem expect_bar : (Rd X).expect (barCell c) 0 = 2 := by
  unfold Schedule.expect Schedule.amountOf
  rw [duties_bar, Finset.sum_congr rfl fun d _ => amount_bar X c d, Finset.sum_const, Finset.card_univ, Fintype.card_bool, smul_eq_mul]
/-- A copy cell's round is one copy's credit. -/
theorem expect_copy : (Rd X).expect (dCell c j k) 0 = N := by
  unfold Schedule.expect Schedule.amountOf; rw [duties_copy, Finset.sum_singleton, amount_copy]

/-- The `y` neighbour's payment at the barrier. -/
theorem payload_bar_true : (Rd X).payload (barCell c) 0 true = barPayY c := rfl
/-- The `x` neighbour's payment at the barrier. -/
theorem payload_bar_false : (Rd X).payload (barCell c) 0 false = barPayX c := rfl
/-- The payment on a copy cell. -/
theorem payload_copy (d : Bool) : (Rd X).payload (dCell c j k) 0 d = copyPay X c j k := by
  show copyPay X c (kindOf (dsem j k)) (chunkOf (dsem j k)) = _
  rw [kindOf_dsem, chunkOf_dsem]

/-- All that the barrier's wait receives. -/
theorem rest_bar : bigSep ((Rd X).duties (barCell c) 0 \ ∅) (fun d => (Rd X).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
/-- All that a copy cell's wait receives. -/
theorem rest_copy : bigSep ((Rd X).duties (dCell c j k) 0 \ ∅) (fun d => (Rd X).payload (dCell c j k) 0 d) = copyPay X c j k := by
  rw [Finset.sdiff_empty, duties_copy, bigSep_singleton, payload_copy]

end Sched

/-! ## What a device owes, and the levels -/

/-- The credits of copies still to start to the `x` neighbour. -/
def owedX (c : Dev nD) : List (Fin 16) → CellTallies nD τ sig Unit
  | [] => 0
  | k :: ks => owedX c ks + tallyAt (dCell (xDev c) 1 k) () N
/-- The credits of copies still to start to the `y` neighbour. -/
def owedY (c : Dev nD) : List (Fin 16) → CellTallies nD τ sig Unit
  | [] => 0
  | k :: ks => owedY c ks + tallyAt (dCell (yDev c) 3 k) () N

/-- What device `c` owes for the exchanges: every chunk's credit to both neighbours. -/
def O₂ (c : Dev nD) : CellTallies nD τ sig Unit := owedY c chunks + owedX c chunks
/-- The same and the unit to the `y` neighbour's barrier. -/
def O₁ (c : Dev nD) : CellTallies nD τ sig Unit := O₂ c + tallyAt (barCell (yDev c)) () 1
/-- The same and the unit to the `x` neighbour's barrier: all that device `c` owes at launch. -/
def O₀ (c : Dev nD) : CellTallies nD τ sig Unit := O₁ c + tallyAt (barCell (xDev c)) () 1

/-- The cells that have a level: those of the cores that run the kernel. -/
def L (g : GSem nD τ sig) : Finset Unit := if g.1.2 = .tc then {()} else ∅
/-- Other cells have none. -/
theorem L_of_ne (g : GSem nD τ sig) (h : g.1.2 ≠ .tc) : L g = ∅ := if_neg h
/-- Every cell of such a core has one. -/
theorem L_tc (c : Dev nD) (sm : SemLoc sig) : L ((c : Thread nD τ), sm) = {()} := if_pos rfl

/-- Barriers at 1, arrivals from the `x` neighbour at 2, from the `y` neighbour at 3, everything else at 0. -/
def dlev (q : DmaSem sig) : ℕ := if q.val < 2 then 0 else if kindOf q = 1 then 2 else if kindOf q = 3 then 3 else 0
/-- The level of a cell. -/
def lv (g : GSem nD τ sig) (_ : Unit) : ℕ := match g.2 with | .reg _ => 1 | .dma q => dlev q
/-- Arrivals along `x` are at 2. -/
theorem dlev1 (k : Fin 16) : dlev (dsem 1 k) = 2 := by revert k; decide
/-- Arrivals along `y` are at 3. -/
theorem dlev3 (k : Fin 16) : dlev (dsem 3 k) = 3 := by revert k; decide

/-- What the first exchange owes is on the `x` neighbour's arrival cells. -/
theorem owedX_pos {c : Dev nD} {ks : List (Fin 16)} {g : GSem nD τ sig} {u : Unit} (h : 0 < owedX c ks g u) : ∃ k, g = dCell (xDev c) 1 k := by
  induction ks with
  | nil => exact absurd h (Nat.lt_irrefl 0)
  | cons k ks ih =>
    unfold owedX at h
    rw [Pi.add_apply, Finsupp.add_apply, tallyAt_apply] at h
    split at h
    · next hg => exact ⟨k, hg.1⟩
    · rw [Nat.add_zero] at h; exact ih h
/-- What the second exchange owes is on the `y` neighbour's arrival cells. -/
theorem owedY_pos {c : Dev nD} {ks : List (Fin 16)} {g : GSem nD τ sig} {u : Unit} (h : 0 < owedY c ks g u) : ∃ k, g = dCell (yDev c) 3 k := by
  induction ks with
  | nil => exact absurd h (Nat.lt_irrefl 0)
  | cons k ks ih =>
    unfold owedY at h
    rw [Pi.add_apply, Finsupp.add_apply, tallyAt_apply] at h
    split at h
    · next hg => exact ⟨k, hg.1⟩
    · rw [Nat.add_zero] at h; exact ih h
/-- What the exchanges owe is on the neighbours' arrival cells. -/
theorem O₂_pos {c : Dev nD} {g : GSem nD τ sig} {u : Unit} (h : 0 < O₂ c g u) : (∃ k, g = dCell (yDev c) 3 k) ∨ ∃ k, g = dCell (xDev c) 1 k := by
  unfold O₂ at h
  rw [Pi.add_apply, Finsupp.add_apply] at h
  rcases Nat.add_pos_iff_pos_or_pos.mp h with h | h
  · exact .inl (owedY_pos h)
  · exact .inr (owedX_pos h)
/-- What is owed at launch is on the neighbours' arrival cells or on barriers. -/
theorem O₀_pos {c : Dev nD} {g : GSem nD τ sig} {u : Unit} (h : 0 < O₀ c g u) :
    ((∃ k, g = dCell (yDev c) 3 k) ∨ ∃ k, g = dCell (xDev c) 1 k) ∨ ∃ d, g = barCell d := by
  unfold O₀ O₁ at h
  rw [Pi.add_apply, Finsupp.add_apply, Pi.add_apply, Finsupp.add_apply, tallyAt_apply, tallyAt_apply] at h
  split at h
  · next hg => exact .inr ⟨_, hg.1⟩
  split at h
  · next hg => exact .inr ⟨_, hg.1⟩
  · exact Or.inl (O₂_pos (c := c) (g := g) (u := u) h)

/-- What a device owes lies at the devices' cells, above level 0. -/
theorem O₀_cut {c : Dev nD} {g : GSem nD τ sig} {u : Unit} (h : 0 < O₀ c g u) : u ∈ L g ∧ 0 < lv g u := by
  rcases O₀_pos h with (⟨k, rfl⟩ | ⟨k, rfl⟩) | ⟨d, rfl⟩
  · exact ⟨Finset.mem_singleton_self _, by show 0 < dlev (dsem 3 k); rw [dlev3]; decide⟩
  · exact ⟨Finset.mem_singleton_self _, by show 0 < dlev (dsem 1 k); rw [dlev1]; decide⟩
  · exact ⟨Finset.mem_singleton_self _, Nat.one_pos⟩

/-- At its barrier a device owes only copies. -/
theorem mayWait_bar (c : Dev nD) : (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases O₂_pos hg with ⟨k, rfl⟩ | ⟨k, rfl⟩ <;> exact Finset.mem_singleton_self _)
    (fun p hp => by rw [Finset.mem_singleton.mp hp]; exact Nat.le_refl 1)
    (fun g u hg => by
      rcases O₂_pos hg with ⟨k, rfl⟩ | ⟨k, rfl⟩
      · show 1 < dlev (dsem 3 k); rw [dlev3]; decide
      · show 1 < dlev (dsem 1 k); rw [dlev1]; decide)

/-- Waiting for the `x` neighbour a device owes only copies to the `y` neighbour. -/
theorem mayWait_x (c : Dev nD) (k : Fin 16) (ks : List (Fin 16)) :
    (levAts L lv : sProp 𝕄) ⊢ MayWait (c : Thread nD τ) (.dma (dsem 1 k)) () (owedY c ks) :=
  MayOwe.of_cut (L := L) (lev := lv) 2 (fun p hp => by rw [Finset.mem_singleton.mp hp, L_tc]; exact Finset.mem_singleton_self _)
    (fun g u hg => by obtain ⟨k, rfl⟩ := owedY_pos hg; exact Finset.mem_singleton_self _)
    (fun p hp => by rw [Finset.mem_singleton.mp hp]; show dlev (dsem 1 k) ≤ 2; rw [dlev1])
    (fun g u hg => by obtain ⟨k', rfl⟩ := owedY_pos hg; show 2 < dlev (dsem 3 k'); rw [dlev3]; decide)

end Cert.Proof
end
-- ==== Proof.Chunks.lean ====
module

public import proofs.«01_k».proof.Proof.Protocol
public import Idealize.ShloMosaic.Lib.Ring

/-! The buffers cut in chunks, and what the chunks hold after a copy or a store. -/

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Which rows a chunk holds -/

/-- An element is in chunk `k` of a half if its row is one of the chunk's 64. -/
theorem half_mem (k : Fin 16) (i : S1024x512.Idx) :
    i ∈ (halfRect k).set ↔ 64 * k.val ≤ (i 0).val ∧ (i 0).val < 64 * k.val + 64 := by
  rw [Rect.mem_set_unit, Fin.forall_fin_two]
  refine ⟨fun h => h.1, fun h => ⟨h, Nat.zero_le _, ?_⟩⟩
  show (i 1).val < 0 + 512
  rw [Nat.zero_add]; exact (i 1).isLt

/-- An element is in chunk `k` of the half of the result that device `d` computes if its row is one of that half's chunk's 64. -/
theorem out_mem (d : Dev nD) (k : Fin 16) (i : S2048x512.Idx) :
    i ∈ (outRect d k).set ↔ 1024 * (d.val % 2) + 64 * k.val ≤ (i 0).val ∧ (i 0).val < 1024 * (d.val % 2) + 64 * k.val + 64 := by
  rw [Rect.mem_set_unit, Fin.forall_fin_two, k0_off2_eq]
  refine ⟨fun h => h.1, fun h => ⟨h, Nat.zero_le _, ?_⟩⟩
  rw [Matrix.cons_val_one, Matrix.cons_val_zero, Nat.zero_add]; exact (i 1).isLt

/-- Chunk `k` of the half a device computes, or of the half its `y` neighbour does. -/
def outBlock (c : Dev nD) (b : Bool × Fin 16) : Finset S2048x512.Idx := (outRect (if b.1 then yDev c else c) b.2).set

/-- Two chunks of a half do not meet. -/
theorem half_disj (k k' : Fin 16) (h : k ≠ k') : Disjoint (halfRect k).set (halfRect k').set := by
  rw [Finset.disjoint_left]
  intro i h1 h2
  rw [half_mem] at h1 h2
  exact h (Fin.ext (by omega))
/-- The chunks cover the half. -/
theorem half_cover : (Finset.univ.biUnion fun k => (halfRect k).set) = Finset.univ := by
  ext i
  simp only [Finset.mem_biUnion, Finset.mem_univ, true_and, iff_true]
  have hi : (i 0).val < 1024 := (i 0).isLt
  refine ⟨⟨(i 0).val / 64, by omega⟩, (half_mem _ i).mpr ?_⟩
  show 64 * ((i 0).val / 64) ≤ (i 0).val ∧ (i 0).val < 64 * ((i 0).val / 64) + 64
  omega

/-- Two chunks of the result do not meet. -/
theorem out_disj (c : Dev nD) (b b' : Bool × Fin 16) (h : b ≠ b') : Disjoint (outBlock c b) (outBlock c b') := by
  rw [Finset.disjoint_left]
  rintro i h1 h2
  have hy := yDev_val c
  obtain ⟨b, k⟩ := b
  obtain ⟨b', k'⟩ := b'
  have hk := k.isLt; have hk' := k'.isLt
  have hy' : k0_dev2 c = 2 * (c.val / 2) + 1 - c.val % 2 := hy
  unfold outBlock at h1 h2
  rw [out_mem] at h1 h2
  cases b <;> cases b' <;> simp only [if_true, Bool.false_eq_true, if_false] at h1 h2
  · exact h (congrArg _ (Fin.ext (by omega)))
  · omega
  · omega
  · exact h (congrArg _ (Fin.ext (by omega)))
/-- The chunks of both halves cover the result. -/
theorem out_cover (c : Dev nD) : Finset.univ.biUnion (outBlock c) = Finset.univ := by
  ext i
  simp only [Finset.mem_biUnion, Finset.mem_univ, true_and, iff_true]
  have hi : (i 0).val < 2048 := (i 0).isLt
  have hy := yDev_val c
  have hk : (i 0).val % 1024 / 64 < 16 := by omega
  by_cases h : (i 0).val / 1024 = c.val % 2
  · refine ⟨(false, ⟨_, hk⟩), (out_mem _ _ i).mpr ?_⟩
    show 1024 * (c.val % 2) + 64 * ((i 0).val % 1024 / 64) ≤ (i 0).val ∧ (i 0).val < 1024 * (c.val % 2) + 64 * ((i 0).val % 1024 / 64) + 64
    omega
  · refine ⟨(true, ⟨_, hk⟩), (out_mem _ _ i).mpr ?_⟩
    show 1024 * ((yDev c).val % 2) + 64 * ((i 0).val % 1024 / 64) ≤ (i 0).val ∧ (i 0).val < 1024 * ((yDev c).val % 2) + 64 * ((i 0).val % 1024 / 64) + 64
    omega

/-! ## Buffers as chunks -/

/-- A conjunction over all chunks, listed in order. -/
theorem over_chunks (Φ : Fin 16 → sProp 𝕄) : bigSep Finset.univ Φ = bigSepL chunks Φ :=
  bigSep_univ_eq_bigSepL chunks (by decide) (by decide) Φ

/-- The elements of a chunk of the send buffer. -/
theorem s_set (k : Fin 16) : (halfChunk sM k).view.set = (halfRect k).set := View.set_slice_whole _ _
/-- The elements of a chunk of the receive buffer. -/
theorem r_set (k : Fin 16) : (halfChunk rM k).view.set = (halfRect k).set := View.set_slice_whole _ _
/-- The elements of a chunk of the result. -/
theorem o_set (d : Dev nD) (k : Fin 16) : (outChunk oM d k).view.set = (outRect d k).set := View.set_slice_whole _ _

/-- The send buffer is its chunks. -/
theorem s_split (q : PosShare TreeShare) (c : Dev nD) (f : Vec F S1024x512 .bf16) :
    ((((c : Thread nD τ).loc cc0_scratch0) ↦{q} f) : sProp 𝕄) = bigSepL chunks fun k => sPts q c k f := by
  rw [← over_chunks, Ring.pointsTo_blocks (ℓ := (c : Thread nD τ).loc cc0_scratch0) (fun k => (halfRect k).set) half_disj half_cover]
  refine bigSep_congr fun k _ => ?_
  unfold sPts; rw [s_set]
/-- The receive buffer is its chunks. -/
theorem r_split (c : Dev nD) (f : Vec F S1024x512 .bf16) :
    ((((c : Thread nD τ).loc cc0_scratch1) ↦{fullShare} f) : sProp 𝕄) = bigSepL chunks fun k => rPts c k f := by
  rw [← over_chunks, Ring.pointsTo_blocks (ℓ := (c : Thread nD τ).loc cc0_scratch1) (fun k => (halfRect k).set) half_disj half_cover]
  refine bigSep_congr fun k _ => ?_
  unfold rPts; rw [r_set]
/-- The result is the chunks of the device's own half and those of its `y` neighbour's. -/
theorem o_split (c : Dev nD) (f : Vec F S2048x512 .bf16) :
    ((((c : Thread nD τ).loc cc0_stg1_0) ↦{fullShare} f) : sProp 𝕄)
      = iprop((bigSepL chunks fun k => oPts c c k f) ∗ (bigSepL chunks fun k => oPts c (yDev c) k f)) := by
  rw [← over_chunks, ← over_chunks, Ring.pointsTo_blocks (ℓ := (c : Thread nD τ).loc cc0_stg1_0) (outBlock c) (out_disj c) (out_cover c),
    bigSep_univ_prod, bigSep_univ_eq_bigSepL [false, true] (by decide) (by decide), bigSepL_cons_cons, bigSepL_singleton]
  have h (b : Bool) (k : Fin 16) : ((((c : Thread nD τ).loc cc0_stg1_0) ↦[outBlock c (b, k)]{fullShare} f) : sProp 𝕄)
      = oPts c (if b then yDev c else c) k f := by
    unfold oPts outBlock; rw [o_set]
  simp only [h]
  rfl

/-- A chunk's full share is its two halves. -/
theorem s_halves (c : Dev nD) (k : Fin 16) (f : Vec F S1024x512 .bf16) :
    (sPts fullShare c k f : sProp 𝕄) ⊣⊢ iprop(sPts fullShare.left c k f ∗ sPts fullShare.right c k f) :=
  pointsTo_share (PosShare.mem_left_op_right fullShare)

/-! ## Values -/

/-- A chunk copied from a send buffer into a receive buffer holds what was sent. -/
theorem r_lands (d : Dev nD) (k : Fin 16) (f g : Vec F S1024x512 .bf16) :
    ((halfChunk rM k).view.loc (d : Thread nD τ) ↦[(halfChunk rM k).view.set]{fullShare}
        (halfChunk rM k).view.write (Elt F) f ((halfChunk sM k).view.read (Elt F) g) Finset.univ : sProp 𝕄) = rPts d k g := by
  unfold rPts
  refine pointsTo_congr fun i hi => ?_
  obtain ⟨x, -, rfl⟩ := Finset.mem_map.mp hi
  rw [View.write_emb_of_mem _ _ (Finset.mem_univ x)]
  rfl

/-- A chunk copied from one result into another holds what was sent. -/
theorem o_lands (a d : Dev nD) (k : Fin 16) (f g : Vec F S2048x512 .bf16) :
    ((outChunk oM d k).view.loc (a : Thread nD τ) ↦[(outChunk oM d k).view.set]{fullShare}
        (outChunk oM d k).view.write (Elt F) f ((outChunk oM d k).view.read (Elt F) g) Finset.univ : sProp 𝕄) = oPts a d k g := by
  unfold oPts
  refine pointsTo_congr fun i hi => ?_
  obtain ⟨x, -, rfl⟩ := Finset.mem_map.mp hi
  rw [View.write_emb_of_mem _ _ (Finset.mem_univ x)]
  rfl

/-- The sum of the two chunks loaded is the result's chunk. -/
theorem sum_at (X : Halves F) (c : Dev nD) (k : Fin 16) (x : S64x512.Idx) :
    (addf (fun y => X c ((halfRect k).idx y)) (fun y => X (xDev c) ((halfRect k).idx y)) : FVec F S64x512 .bf16) x
      = outV X c ((outRect c k).idx x) := by
  have hx : (x 0).val < 64 := (x 0).isLt
  have hk := k.isLt
  have h0 : (((outRect c k).idx x) 0).val = 1024 * (c.val % 2) + 64 * k.val + (x 0).val := by
    show (k0_off2 c (BitVec.ofNat 32 (64 * k.val))) 0 + 1 * (x 0).val = _
    rw [k0_off2_eq, Nat.one_mul]; rfl
  have h1 : (((outRect c k).idx x) 1).val = (x 1).val := by
    show (k0_off2 c (BitVec.ofNat 32 (64 * k.val))) 1 + 1 * (x 1).val = _
    rw [k0_off2_eq, Nat.one_mul]; exact Nat.zero_add _
  have hd : rowDev c (((outRect c k).idx x) 0) = c := Fin.ext (by
    show 2 * (c.val / 2) + (((outRect c k).idx x) 0).val / 1024 = c.val
    rw [h0]; omega)
  have hi : rowIdx ((outRect c k).idx x) = (halfRect k).idx x := by
    funext a
    refine Fin.ext ?_
    match a with
    | ⟨0, _⟩ =>
      show (((outRect c k).idx x) 0).val % 1024 = 64 * k.val + 1 * (x 0).val
      rw [h0]; omega
    | ⟨1, _⟩ =>
      show (((outRect c k).idx x) 1).val = 0 + 1 * (x 1).val
      rw [h1]; omega
  unfold outV
  rw [hd, hi]
  rfl

/-- The stored sum of two chunks is the chunk of the final result. -/
theorem o_stored (X : Halves F) (c : Dev nD) (k : Fin 16) (f : Vec F S2048x512 .bf16) :
    ((outChunk oM c k).view.loc (c : Thread nD τ) ↦[(outChunk oM c k).view.set]{fullShare}
        (outChunk oM c k).view.write (Elt F) f
          (addf ((halfChunk sM k).view.read (Elt F) (X c)) ((halfChunk rM k).view.read (Elt F) (X (xDev c))) : FVec F S64x512 .bf16) Finset.univ : sProp 𝕄)
      = oPts c c k (outV X c) := by
  unfold oPts
  refine pointsTo_congr fun i hi => ?_
  obtain ⟨x, -, rfl⟩ := Finset.mem_map.mp hi
  rw [View.write_emb_of_mem _ _ (Finset.mem_univ x)]
  exact sum_at X c k x

end Cert.Proof
end
-- ==== Proof.Passes.lean ====
module

public import proofs.«01_k».proof.Proof.Chunks

/-! The three passes over the chunks, each step run from what it needs to what it leaves. -/

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop needs a variant. -/
abbrev 𝒱₀ : Variants := Variants.none

/-! ## The cells' invariants -/

/-- The barrier cells, one for each device. -/
def barEmb : Dev nD ↪ GSem nD τ sig := ⟨fun c => barCell c, fun _ _ h => congrArg (fun g : GSem nD τ sig => g.1.1) h⟩
/-- A copy semaphore tells its array and its chunk. -/
theorem dsem_inj (a b : Fin 4 × Fin 16) (h : dsem a.1 a.2 = dsem b.1 b.2) : a = b :=
  Prod.ext (by have := congrArg kindOf h; rwa [kindOf_dsem, kindOf_dsem] at this) (by have := congrArg chunkOf h; rwa [chunkOf_dsem, chunkOf_dsem] at this)
/-- The copy cells, four for each device and chunk. -/
def copyEmb : Dev nD × (Fin 4 × Fin 16) ↪ GSem nD τ sig :=
  ⟨fun x => dCell x.1 x.2.1 x.2.2, fun _ _ h =>
    Prod.ext (congrArg (fun g : GSem nD τ sig => g.1.1) h) (dsem_inj _ _ (SemLoc.dma.inj (congrArg Prod.snd h)))⟩

/-- Every device’s barrier cell. -/
abbrev barCells : Finset (GSem nD τ sig) := Finset.univ.map barEmb
/-- Every device's copy cells. -/
abbrev copyCells : Finset (GSem nD τ sig) := Finset.univ.map copyEmb

/-- All the cells' invariants, at the names `κ`. -/
def invs (X : Halves F) (κ : GSem nD τ sig → ℕ) : sProp 𝕄 :=
  bigSep (barCells ∪ copyCells) fun g => cellInv ER (Rd X) (κ g) g
/-- The invariants may be used again and again. -/
instance invs_persistent (X : Halves F) (κ : GSem nD τ sig → ℕ) : BI.Persistent (invs X κ) := by unfold invs; infer_instance

/-- Among the invariants is each barrier cell's. -/
theorem inv_bar (X : Halves F) (κ : GSem nD τ sig → ℕ) (c : Dev nD) : invs X κ ⊢ cellInv ER (Rd X) (κ (barCell c)) (barCell c) :=
  bigSep_elim (Finset.mem_union_left _ (Finset.mem_map_of_mem barEmb (Finset.mem_univ c)))
/-- Among the invariants is each copy cell's. -/
theorem inv_copy (X : Halves F) (κ : GSem nD τ sig → ℕ) (c : Dev nD) (j : Fin 4) (k : Fin 16) :
    invs X κ ⊢ cellInv ER (Rd X) (κ (dCell c j k)) (dCell c j k) :=
  bigSep_elim (Finset.mem_union_right _ (Finset.mem_map_of_mem copyEmb (Finset.mem_univ (c, (j, k)))))

/-- What every step may consult: the invariants and the levels. -/
def ctx (X : Halves F) (κ : GSem nD τ sig → ℕ) : sProp 𝕄 := iprop(invs X κ ∗ levAts L lv)
/-- The context may be used again and again. -/
instance ctx_persistent (X : Halves F) (κ : GSem nD τ sig → ℕ) : BI.Persistent (ctx X κ) := by unfold ctx; infer_instance

/-! ## A pass -/

/-- A conjunction over a list is that of its first chunk and that over the rest. -/
theorem listSep_cons (k : Fin 16) (ks : List (Fin 16)) (Φ : Fin 16 → sProp 𝕄) : bigSepL (k :: ks) Φ = iprop(Φ k ∗ bigSepL ks Φ) := bigSepL_cons k ks Φ

/-- A step that runs for each chunk, from `I` of the chunks left and what the chunk needs, to `I` of the rest and what
    the chunk leaves, runs over a list. -/
theorem wp_pass (c : Dev nD) (C : sProp 𝕄) [BI.Persistent C] (f : Fin 16 → Prog (TpuEff nD τ sig (Elt F) Λ₀ .tc) PUnit)
    (I : List (Fin 16) → sProp 𝕄) (pre post : Fin 16 → sProp 𝕄)
    (hstep : ∀ (k : Fin 16) (ks : List (Fin 16)) (K : PUnit → sProp 𝕄),
      iprop(C ∗ I (k :: ks) ∗ pre k ∗ ((I ks ∗ post k) -∗ K ⟨⟩)) ⊢ wp frame (wpE (defs₀ (F := F)) 𝒱₀ (c : Thread nD τ) none) Set.univ (f k) K)
    (ks : List (Fin 16)) : ∀ K : PUnit → sProp 𝕄,
    iprop(C ∗ I ks ∗ bigSepL ks pre ∗ ((I [] ∗ bigSepL ks post) -∗ K ⟨⟩))
      ⊢ wp frame (wpE (defs₀ (F := F)) 𝒱₀ (c : Thread nD τ) none) Set.univ (passOver f ks) K := by
  induction ks with
  | nil =>
    intro K
    unfold passOver
    rw [wp_ret, bigSepL_nil, bigSepL_nil]
    iintro ⟨-, HI, -, HK⟩
    imodintro
    iapply HK
    isplitl [HI]; · iexact HI
    iempintro
  | cons k ks ih =>
    intro K
    unfold passOver
    rw [wp_bind, listSep_cons, listSep_cons]
    iintro ⟨#HC, HI, ⟨Hp, Hps⟩, HK⟩
    iapply (hstep k ks _)
    isplitr; · iexact HC
    isplitl [HI]; · iexact HI
    isplitl [Hp]; · iexact Hp
    iintro ⟨HI, Hq⟩
    iapply (ih K)
    isplitr; · iexact HC
    isplitl [HI]; · iexact HI
    isplitl [Hps]; · iexact Hps
    iintro ⟨HI, Hqs⟩
    iapply HK
    isplitl [HI]; · iexact HI
    isplitl [Hq] <;> iassumption

section Steps

variable (X : Halves F) (κ : GSem nD τ sig → ℕ) (c : Dev nD)

/-! ## Waiting for a copy -/

/-- A wait on a copy cell, owing what the levels let it, gives the copy's payment back. -/
theorem wp_wait_copy (j : Fin 4) (k : Fin 16) (q : DmaSem sig) (hq : q = dsem j k) (O : CellTallies nD τ sig Unit) (W : Waits sig Unit)
    {s s' : Shape} {src : Memref sig .tc .vmem s .bf16} {dst : Memref sig .tc .vmem s' .bf16} {hsrc : src.view.WordExact} {hdst : dst.view.WordExact}
    (hN : dst.view.dmaCredit = N)
    {α : Type} {Q : α → sProp 𝕄} {p : PUnit → Prog (TpuEff nD τ sig (Elt F) Λ₀ .tc) α} :
    iprop(ctx X κ ∗ cred (tallyAt (dCell c j k) () N) ∗ owes (c : Thread nD τ) O W
        ∗ MayWait (c : Thread nD τ) (.dma (dsem j k)) () O ∗ atPos ER (dCell c j k) 0 ∅ 0)
      ⊢ iprop(((owes (c : Thread nD τ) O (insert (SemLoc.dma (dsem j k), ()) W) ∗ atPos ER (dCell c j k) (0 + 1) ∅ 0
            ∗ copyPay X c j k) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 q src dst hsrc hdst) p) Q) := by
  subst hq
  unfold ctx
  iintro ⟨⟨#HI, -⟩, Hc, HO, HM, Hat⟩ Hk
  iapply (Rounds.wp_wait_rest_token 𝒱₀ ER (Rd X) (c : Thread nD τ) none (κ := κ (dCell c j k))
      (wpE_waitDma2_eq 𝒱₀ (c : Thread nD τ) none Set.univ) (Set.mem_univ _) () (O := O) (W := W) (R := 0) (m := 0) (T := ∅)
      (by rw [Nat.zero_add, hN, expect_copy])) $$ [Hc HO HM Hat]
  · isplitr; · iapply (inv_copy X κ c j k); iexact HI
    isplitl [Hc]; · rw [hN]; iexact Hc
    isplitl [HO]; · iexact HO
    isplitl [HM]; · iexact HM
    iexact Hat
  iintro ⟨HO, Hat, -, Hpay⟩
  iapply Hk
  isplitl [HO]; · iexact HO
  isplitl [Hat]; · iexact Hat
  iapply (Entails.of_eq (rest_copy X c j k)); iexact Hpay

/-- A finished send along `x` gives back the half share of the chunk sent. -/
theorem copyPay_0 (d : Dev nD) (k : Fin 16) : copyPay X d 0 k = sPts fullShare.left d k (X d) := rfl
/-- An arrival along `x` gives the chunk with the neighbour's rows. -/
theorem copyPay_1 (d : Dev nD) (k : Fin 16) : copyPay X d 1 k = rPts d k (X (xDev d)) := rfl
/-- A finished send along `y` gives back the chunk of sums sent. -/
theorem copyPay_2 (d : Dev nD) (k : Fin 16) : copyPay X d 2 k = oPts d d k (outV X d) := rfl
/-- An arrival along `y` gives the chunk with the neighbour's sums. -/
theorem copyPay_3 (d : Dev nD) (k : Fin 16) : copyPay X d 3 k = oPts d (yDev d) k (outV X d) := rfl

/-! ## The first pass: sends to the `x` neighbour -/

/-- What the first pass needs for a chunk: the chunk to send, the place where it lands, and the rights to both credits. -/
def sendPre (k : Fin 16) : sProp 𝕄 :=
  iprop(sPts fullShare c k (X c) ∗ ((∃ f, rPts (xDev c) k f) ∗ reached ER (dCell (xDev c) 1 k) 0)
    ∗ dutyTok ER (dCell (xDev c) 1 k) 0 false ∗ dutyTok ER (dCell c 0 k) 0 false ∗ reached ER (dCell c 0 k) 0)
/-- What the first pass leaves of a chunk: the other half share, and the claim on the send's end. -/
def sendPost (k : Fin 16) : sProp 𝕄 := iprop(sPts fullShare.right c k (X c) ∗ cred (tallyAt (dCell c 0 k) () N))
/-- What is owed in the first pass with the chunks `ks` to go. -/
def sendInv (ks : List (Fin 16)) : sProp 𝕄 := iprop(∃ W, owes (c : Thread nD τ) (owedY c chunks + owedX c ks) W)

/-- A copy of chunk `k` to the `x` neighbour starts, and pays what was owed for it. -/
theorem wp_send_x (n : Dev nD) (hn : n = xDev c) (k : Fin 16) (q q' : DmaSem sig) (hq : q = dsem 0 k) (hq' : q' = dsem 1 k)
    {hsc : (halfChunk rM k : Memref sig (Dev.tc n : Thread nD τ).2.kind .vmem S64x512 .bf16).view.ref.isScScratch = false}
    {hsrc : (halfChunk sM k).view.WordExact} {hdst : (halfChunk rM k : Memref sig (Dev.tc n : Thread nD τ).2.kind .vmem S64x512 .bf16).view.WordExact}
    {hsem : DmaTarget.Typed .vmem (.dma q') (.remote (Dev.tc n : Thread nD τ) (halfChunk rM k) (.dma q) hsc)}
    {α : Type} {Q : α → sProp 𝕄} {p : PUnit → Prog (TpuEff nD τ sig (Elt F) Λ₀ .tc) α}
    (f : Vec F S1024x512 .bf16) (O : CellTallies nD τ sig Unit) (W : Waits sig Unit) :
    iprop(ctx X κ ∗ sPts fullShare.left c k (X c) ∗ rPts (xDev c) k f ∗ owes (c : Thread nD τ) (O + tallyAt (dCell (xDev c) 1 k) () N) W
        ∗ dutyTok ER (dCell c 0 k) 0 false ∗ reached ER (dCell c 0 k) 0 ∗ dutyTok ER (dCell (xDev c) 1 k) 0 false ∗ reached ER (dCell (xDev c) 1 k) 0)
      ⊢ iprop(((cred (tallyAt (dCell c 0 k) () N) ∗ owes (c : Thread nD τ) O W) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (halfChunk sM k) (.remote (Dev.tc n : Thread nD τ) (halfChunk rM k) (.dma q) hsc) (.dma q') hsrc hdst hsem) p) Q) := by
  subst hn hq hq'
  unfold ctx sPts rPts
  iintro ⟨⟨#HI, -⟩, H⟩
  iapply (Rounds.wp_send_pointsTo 𝒱₀ ER (Rd X) (c : Thread nD τ) none (c' := (xDev c : Thread nD τ)) (src := halfChunk sM k) (dst := halfChunk rM k)
    (sS := .dma (dsem 0 k)) (sem := .dma (dsem 1 k)) (q := fullShare.left) (fs := X c) (κ₁ := κ (dCell c 0 k)) (κ₂ := κ (dCell (xDev c) 1 k))
    (r₁ := 0) (r₂ := 0) (d₁ := false) (d₂ := false) (fd := f)
    (by rw [duties_copy]; exact Finset.mem_singleton_self _) (by rw [duties_copy]; exact Finset.mem_singleton_self _)
    () () N (N_half_r k) (amount_copy X c 0 k false) (amount_copy X (xDev c) 1 k false) O rfl (W := W)
    (by rw [payload_copy, copyPay_0]; exact BI.Entails.refl _)
    (by rw [payload_copy, copyPay_1, xx]; exact Entails.of_eq (r_lands (xDev c) k f (X c))))
  isplitr; · iapply (inv_copy X κ c 0 k); iexact HI
  isplitr; · iapply (inv_copy X κ (xDev c) 1 k); iexact HI
  iexact H

/-- One step of the first pass. -/
theorem send_step (k : Fin 16) (ks : List (Fin 16)) (K : PUnit → sProp 𝕄) :
    iprop(ctx X κ ∗ sendInv c (k :: ks) ∗ sendPre X c k ∗ ((sendInv c ks ∗ sendPost X c k) -∗ K ⟨⟩))
      ⊢ wp frame (wpE (defs₀ (F := F)) 𝒱₀ (c : Thread nD τ) none) Set.univ
          (sendStep sM (Memref.isWhole_whole _) rM (Memref.isWhole_whole _) cc0_scratch2 cc0_scratch3 c k) K := by
  unfold sendStep sendInv sendPre sendPost
  simp only [Prog.lift]
  iintro ⟨#HC, ⟨%W, HO⟩, ⟨Hs, ⟨⟨%f, Hr⟩, Hrr⟩, Ht, Ht', Hrs⟩, HK⟩
  ihave Hs2 := (s_halves c k (X c)).1 $$ Hs
  icases Hs2 with ⟨HsL, HsR⟩
  iapply (wp_send_x X κ c _ rfl k _ _ (semAt2 k) (semAt3 k) f (owedY c chunks + owedX c ks) W) $$ [HsL Hr HO Ht Ht' Hrr Hrs]
  · isplitr; · iexact HC
    isplitl [HsL]; · iexact HsL
    isplitl [Hr]; · iexact Hr
    isplitl [HO]; · rw [add_assoc]; iexact HO
    isplitl [Ht']; · iexact Ht'
    isplitl [Hrs]; · iexact Hrs
    isplitl [Ht]; · iexact Ht
    iexact Hrr
  iintro ⟨Hc, HO⟩
  rw [wp_ret]; imodintro
  iapply HK
  isplitl [HO]; · iexists W; iexact HO
  isplitl [HsR] <;> iassumption

/-! ## The second pass: sums, and sends to the `y` neighbour -/

/-- What the second pass needs for a chunk: the chunk sent, the claim on the arrival, the places of the sum here and at the neighbour, and the rights to both credits. -/
def sumPre (k : Fin 16) : sProp 𝕄 :=
  iprop(sPts fullShare.right c k (X c) ∗ cred (tallyAt (dCell c 1 k) () N) ∗ atPos ER (dCell c 1 k) 0 ∅ 0 ∗ (∃ f, oPts c c k f)
    ∗ ((∃ f, oPts (yDev c) c k f) ∗ reached ER (dCell (yDev c) 3 k) 0)
    ∗ dutyTok ER (dCell (yDev c) 3 k) 0 false ∗ dutyTok ER (dCell c 2 k) 0 false ∗ reached ER (dCell c 2 k) 0)
/-- What the second pass leaves of a chunk: both chunks read, and the claim on the send's end. -/
def sumPost (k : Fin 16) : sProp 𝕄 :=
  iprop(sPts fullShare.right c k (X c) ∗ rPts c k (X (xDev c)) ∗ atPos ER (dCell c 1 k) (0 + 1) ∅ 0 ∗ cred (tallyAt (dCell c 2 k) () N))
/-- What is owed in the second pass with the chunks `ks` to go. -/
def sumInv (ks : List (Fin 16)) : sProp 𝕄 := iprop(∃ W, owes (c : Thread nD τ) (owedY c ks) W)

/-- A copy of chunk `k` of the sums to the `y` neighbour starts, and pays what was owed for it. -/
theorem wp_send_y (n : Dev nD) (hn : n = yDev c) (k : Fin 16) (q q' : DmaSem sig) (hq : q = dsem 2 k) (hq' : q' = dsem 3 k)
    {hsc : (outChunk oM c k : Memref sig (Dev.tc n : Thread nD τ).2.kind .vmem S64x512 .bf16).view.ref.isScScratch = false}
    {hsrc : (outChunk oM c k).view.WordExact} {hdst : (outChunk oM c k : Memref sig (Dev.tc n : Thread nD τ).2.kind .vmem S64x512 .bf16).view.WordExact}
    {hsem : DmaTarget.Typed .vmem (.dma q') (.remote (Dev.tc n : Thread nD τ) (outChunk oM c k) (.dma q) hsc)}
    {α : Type} {Q : α → sProp 𝕄} {p : PUnit → Prog (TpuEff nD τ sig (Elt F) Λ₀ .tc) α}
    (f : Vec F S2048x512 .bf16) (O : CellTallies nD τ sig Unit) (W : Waits sig Unit) :
    iprop(ctx X κ ∗ oPts c c k (outV X c) ∗ oPts (yDev c) c k f ∗ owes (c : Thread nD τ) (O + tallyAt (dCell (yDev c) 3 k) () N) W
        ∗ dutyTok ER (dCell c 2 k) 0 false ∗ reached ER (dCell c 2 k) 0 ∗ dutyTok ER (dCell (yDev c) 3 k) 0 false ∗ reached ER (dCell (yDev c) 3 k) 0)
      ⊢ iprop(((cred (tallyAt (dCell c 2 k) () N) ∗ owes (c : Thread nD τ) O W) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (outChunk oM c k) (.remote (Dev.tc n : Thread nD τ) (outChunk oM c k) (.dma q) hsc) (.dma q') hsrc hdst hsem) p) Q) := by
  subst hn hq hq'
  unfold ctx
  iintro ⟨⟨#HI, -⟩, H⟩
  unfold oPts
  iapply (Rounds.wp_send_pointsTo 𝒱₀ ER (Rd X) (c : Thread nD τ) none (c' := (yDev c : Thread nD τ)) (src := outChunk oM c k) (dst := outChunk oM c k)
    (sS := .dma (dsem 2 k)) (sem := .dma (dsem 3 k)) (q := fullShare) (κ₁ := κ (dCell c 2 k)) (κ₂ := κ (dCell (yDev c) 3 k))
    (r₁ := 0) (r₂ := 0) (d₁ := false) (d₂ := false) (fs := outV X c) (fd := f)
    (by rw [duties_copy]; exact Finset.mem_singleton_self _) (by rw [duties_copy]; exact Finset.mem_singleton_self _)
    () () N (N_out c k) (amount_copy X c 2 k false) (amount_copy X (yDev c) 3 k false) O rfl (W := W)
    (by rw [payload_copy, copyPay_2]; exact BI.Entails.refl _)
    (by rw [payload_copy, copyPay_3, yy, outV_y]; exact Entails.of_eq (o_lands (yDev c) c k f (outV X c))))
  isplitr; · iapply (inv_copy X κ c 2 k); iexact HI
  isplitr; · iapply (inv_copy X κ (yDev c) 3 k); iexact HI
  iexact H

/-- One step of the second pass: the arrival, the sum, and its sending. -/
theorem sum_step (k : Fin 16) (ks : List (Fin 16)) (K : PUnit → sProp 𝕄) :
    iprop(ctx X κ ∗ sumInv c (k :: ks) ∗ sumPre X c k ∗ ((sumInv c ks ∗ sumPost X c k) -∗ K ⟨⟩))
      ⊢ wp frame (wpE (defs₀ (F := F)) 𝒱₀ (c : Thread nD τ) none) Set.univ
          (sumStep oM (Memref.isWhole_whole _) sM (Memref.isWhole_whole _) rM (Memref.isWhole_whole _) cc0_scratch3 cc0_scratch4 cc0_scratch5 c k) K := by
  unfold sumStep sumInv sumPre sumPost
  simp only [Prog.lift, Prog.bind_op, Prog.bind_ret]
  iintro ⟨#HC, ⟨%W, HO⟩, ⟨Hs, Hcr, Hat, ⟨%f, Ho⟩, ⟨⟨%g, Hy⟩, Hry⟩, Ht, Ht', Hrs⟩, HK⟩
  iapply (wp_wait_copy X κ c 1 k _ (semAt3 k) (owedY c (k :: ks)) W (N_half_r k)) $$ [Hcr HO Hat]
  · isplitr; · iexact HC
    isplitl [Hcr]; · iexact Hcr
    isplitl [HO]; · iexact HO
    isplitr
    · iapply (mayWait_x c k (k :: ks)); unfold ctx; icases HC with ⟨-, Hl⟩; iexact Hl
    iexact Hat
  iintro ⟨HO, Hat, Hr⟩
  ihave Hr := (Entails.of_eq (copyPay_1 X c k)) $$ Hr
  unfold sPts rPts
  iapply (wp_load_rect 𝒱₀ (c : Thread nD τ) none Set.univ (m := sM) (r := halfRect k) (Finset.Subset.refl _)) $$ Hs; iintro Hs
  iapply (wp_load_rect 𝒱₀ (c : Thread nD τ) none Set.univ (m := rM) (r := halfRect k) (Finset.Subset.refl _)) $$ Hr; iintro Hr
  unfold oPts
  iapply (wp_load_rect 𝒱₀ (c : Thread nD τ) none Set.univ (m := oM) (r := outRect c k) (Finset.Subset.refl _)) $$ Ho; iintro Ho
  iapply (wp_store 𝒱₀ (c : Thread nD τ) none Set.univ (m := oM) (r := outRect c k) (Mk := Finset.univ)
    (S := (oM.access (outRect c k)).set) (View.setOn_subset_set _ _)) $$ Ho; iintro Ho
  ihave Ho' := (Entails.of_eq (o_stored X c k f)) $$ Ho
  iapply (wp_send_y X κ c _ rfl k _ _ (semAt4 k) (semAt5 k) g (owedY c ks) _) $$ [Ho' Hy HO Ht Ht' Hry Hrs]
  · isplitr; · iexact HC
    isplitl [Ho']; · iexact Ho'
    isplitl [Hy]; · unfold oPts; iexact Hy
    isplitl [HO]; · iexact HO
    isplitl [Ht']; · iexact Ht'
    isplitl [Hrs]; · iexact Hrs
    isplitl [Ht]; · iexact Ht
    iexact Hry
  iintro ⟨Hc, HO⟩
  rw [wp_ret]; imodintro
  iapply HK
  isplitl [HO]; · iexists _; iexact HO
  isplitl [Hs]; · iexact Hs
  isplitl [Hr]; · iexact Hr
  isplitl [Hat] <;> iassumption

/-! ## The third pass: the waits left -/

/-- What the third pass needs for a chunk: the claims on the two sends' ends and on the neighbour's sums. -/
def donePre (k : Fin 16) : sProp 𝕄 :=
  iprop((cred (tallyAt (dCell c 0 k) () N) ∗ cred (tallyAt (dCell c 2 k) () N) ∗ cred (tallyAt (dCell c 3 k) () N))
    ∗ atPos ER (dCell c 0 k) 0 ∅ 0 ∗ atPos ER (dCell c 2 k) 0 ∅ 0 ∗ atPos ER (dCell c 3 k) 0 ∅ 0)
/-- What the third pass leaves of a chunk: the share lent to the send, and both chunks of the result. -/
def donePost (k : Fin 16) : sProp 𝕄 :=
  iprop((atPos ER (dCell c 0 k) (0 + 1) ∅ 0 ∗ atPos ER (dCell c 2 k) (0 + 1) ∅ 0 ∗ atPos ER (dCell c 3 k) (0 + 1) ∅ 0)
    ∗ sPts fullShare.left c k (X c) ∗ oPts c c k (outV X c) ∗ oPts c (yDev c) k (outV X c))
/-- Nothing is owed in the third pass. -/
def doneInv (_ : List (Fin 16)) : sProp 𝕄 := iprop(∃ W, owes (c : Thread nD τ) (0 : CellTallies nD τ sig Unit) W)

/-- One step of the third pass: the three waits left. -/
theorem done_step (k : Fin 16) (ks : List (Fin 16)) (K : PUnit → sProp 𝕄) :
    iprop(ctx X κ ∗ doneInv c (k :: ks) ∗ donePre c k ∗ ((doneInv c ks ∗ donePost X c k) -∗ K ⟨⟩))
      ⊢ wp frame (wpE (defs₀ (F := F)) 𝒱₀ (c : Thread nD τ) none) Set.univ
          (doneStep oM (Memref.isWhole_whole _) sM (Memref.isWhole_whole _) rM (Memref.isWhole_whole _) cc0_scratch2 cc0_scratch4 cc0_scratch5 c k) K := by
  unfold doneStep doneInv donePre donePost
  simp only [Prog.lift, Prog.bind_op, Prog.bind_ret]
  iintro ⟨#HC, ⟨%W, HO⟩, ⟨⟨Hc0, Hc2, Hc3⟩, Ha0, Ha2, Ha3⟩, HK⟩
  iapply (wp_wait_copy X κ c 0 k _ (semAt2 k) 0 W (N_half_s k)) $$ [Hc0 HO Ha0]
  · isplitr; · iexact HC
    isplitl [Hc0]; · iexact Hc0
    isplitl [HO]; · iexact HO
    isplitr; · rw [MayWait_zero]; iempintro
    iexact Ha0
  iintro ⟨HO, Ha0, Hp0⟩
  iapply (wp_wait_copy X κ c 2 k _ (semAt4 k) 0 _ (N_out c k)) $$ [Hc2 HO Ha2]
  · isplitr; · iexact HC
    isplitl [Hc2]; · iexact Hc2
    isplitl [HO]; · iexact HO
    isplitr; · rw [MayWait_zero]; iempintro
    iexact Ha2
  iintro ⟨HO, Ha2, Hp2⟩
  iapply (wp_wait_copy X κ c 3 k _ (semAt5 k) 0 _ (N_out c k)) $$ [Hc3 HO Ha3]
  · isplitr; · iexact HC
    isplitl [Hc3]; · iexact Hc3
    isplitl [HO]; · iexact HO
    isplitr; · rw [MayWait_zero]; iempintro
    iexact Ha3
  iintro ⟨HO, Ha3, Hp3⟩
  ihave Hp0 := (Entails.of_eq (copyPay_0 X c k)) $$ Hp0
  ihave Hp2 := (Entails.of_eq (copyPay_2 X c k)) $$ Hp2
  ihave Hp3 := (Entails.of_eq (copyPay_3 X c k)) $$ Hp3
  rw [wp_ret]; imodintro
  iapply HK
  isplitl [HO]; · iexists _; iexact HO
  isplitl [Ha0 Ha2 Ha3]
  · isplitl [Ha0]; · iexact Ha0
    isplitl [Ha2] <;> iassumption
  isplitl [Hp0]; · iexact Hp0
  isplitl [Hp2] <;> iassumption

end Steps

end Cert.Proof
end
-- ==== Proof.Body.lean ====
module

public import proofs.«01_k».proof.Proof.Passes
public import Idealize.ShloMosaic.Lib.Rounds.Family
public import Idealize.ShloMosaic.Lib.Pointwise.Reshape

/-! One device's whole body, from the buffers, rights and credits it starts with to what it ends with. -/

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One assertion for every chunk -/

/-- `Φ` of every chunk. -/
abbrev per (Φ : Fin 16 → sProp 𝕄) : sProp 𝕄 := bigSepL chunks Φ

/-- Two assertions of every chunk are one of both. -/
theorem per_sep (Φ Ψ : Fin 16 → sProp 𝕄) : per (fun k => iprop(Φ k ∗ Ψ k)) = iprop(per Φ ∗ per Ψ) := by
  unfold per; rw [← over_chunks, ← over_chunks, ← over_chunks, bigSep_sep']
/-- An entailment that holds for each chunk holds for all. -/
theorem per_mono {Φ Ψ : Fin 16 → sProp 𝕄} (h : ∀ k, Φ k ⊢ Ψ k) : per Φ ⊢ per Ψ := by
  unfold per; rw [← over_chunks, ← over_chunks]; exact bigSep_mono fun k _ => h k

/-- `Φ` of every copy semaphore: array by array. -/
theorem cells_eq (Φ : Fin 4 → Fin 16 → sProp 𝕄) :
    bigSep Finset.univ (fun x : Fin 4 × Fin 16 => Φ x.1 x.2) = iprop(per (Φ 0) ∗ per (Φ 1) ∗ per (Φ 2) ∗ per (Φ 3)) := by
  rw [bigSep_univ_prod, bigSep_univ_eq_bigSepL [0, 1, 2, 3] (by decide) (by decide), bigSepL_cons_cons, bigSepL_cons_cons, bigSepL_cons_cons,
    bigSepL_singleton]
  simp only [over_chunks]; rfl

section Body

variable (X : Halves F) (κ : GSem nD τ sig → ℕ) (c : Dev nD)

/-! ## What the passes need, gathered over the chunks -/

/-- What the first pass needs, gathered by kind. -/
theorem sendPre_all : per (sendPre X c) = iprop(per (fun k => sPts fullShare c k (X c)) ∗ barPayX c
    ∗ per (fun k => dutyTok ER (dCell (xDev c) 1 k) 0 false) ∗ per (fun k => dutyTok ER (dCell c 0 k) 0 false) ∗ per (fun k => reached ER (dCell c 0 k) 0)) := by
  unfold sendPre barPayX; simp only [per_sep]
/-- What the first pass leaves, gathered by kind. -/
theorem sendPost_all : per (sendPost X c) = iprop(per (fun k => sPts fullShare.right c k (X c)) ∗ per (fun k => cred (tallyAt (dCell c 0 k) () N))) := by
  unfold sendPost; simp only [per_sep]
/-- What the second pass needs, gathered by kind. -/
theorem sumPre_all : per (sumPre X c) = iprop(per (fun k => sPts fullShare.right c k (X c)) ∗ per (fun k => cred (tallyAt (dCell c 1 k) () N))
    ∗ per (fun k => atPos ER (dCell c 1 k) 0 ∅ 0) ∗ per (fun k => iprop(∃ f, oPts c c k f)) ∗ barPayY c
    ∗ per (fun k => dutyTok ER (dCell (yDev c) 3 k) 0 false) ∗ per (fun k => dutyTok ER (dCell c 2 k) 0 false) ∗ per (fun k => reached ER (dCell c 2 k) 0)) := by
  unfold sumPre barPayY; simp only [per_sep]
/-- What the second pass leaves, gathered by kind. -/
theorem sumPost_all : per (sumPost X c) = iprop(per (fun k => sPts fullShare.right c k (X c)) ∗ per (fun k => rPts c k (X (xDev c)))
    ∗ per (fun k => atPos ER (dCell c 1 k) (0 + 1) ∅ 0) ∗ per (fun k => cred (tallyAt (dCell c 2 k) () N))) := by
  unfold sumPost; simp only [per_sep]
/-- What the third pass needs, gathered by kind. -/
theorem donePre_all : per (donePre (F := F) c) = iprop((per (fun k => cred (tallyAt (dCell c 0 k) () N)) ∗ per (fun k => cred (tallyAt (dCell c 2 k) () N))
      ∗ per (fun k => cred (tallyAt (dCell c 3 k) () N)))
    ∗ per (fun k => atPos ER (dCell c 0 k) 0 ∅ 0) ∗ per (fun k => atPos ER (dCell c 2 k) 0 ∅ 0) ∗ per (fun k => atPos ER (dCell c 3 k) 0 ∅ 0)) := by
  unfold donePre; simp only [per_sep]
/-- What the third pass leaves, gathered by kind. -/
theorem donePost_all : per (donePost X c) = iprop((per (fun k => atPos ER (dCell c 0 k) (0 + 1) ∅ 0) ∗ per (fun k => atPos ER (dCell c 2 k) (0 + 1) ∅ 0)
      ∗ per (fun k => atPos ER (dCell c 3 k) (0 + 1) ∅ 0))
    ∗ per (fun k => sPts fullShare.left c k (X c)) ∗ per (fun k => oPts c c k (outV X c)) ∗ per (fun k => oPts c (yDev c) k (outV X c))) := by
  unfold donePost; simp only [per_sep]

/-! ## The prologue -/

/-- A whole half, as the rectangle that the first load and store use. -/
abbrev wholeHalf : Rect S1024x512 := Rect.unit (s := S1024x512) ![0, 0] S1024x512.size inb_S1024x512_S1024x512_0_0
/-- The origin's coordinates are zero. -/
theorem zeros : (![0, 0] : Fin 2 → Nat) = fun _ => 0 := funext fun a => by fin_cases a <;> rfl
/-- A load of the whole input reads its contents. -/
theorem read_in (f : Vec F S1024x512 .bf16) : iM.view.readAt (Elt F) wholeHalf.toLoadRect f = f :=
  Memref.readAt_unit_zero (Elt F) cc0_stg0_0 zeros _ f
/-- A store to the whole send buffer leaves what was stored. -/
theorem write_send (f w : Vec F S1024x512 .bf16) : (sM.access wholeHalf : View sig .tc _ _ _).write (Elt F) f (k0_pay1 w) Finset.univ = w := by
  rw [show (k0_pay1 w : Vec F S1024x512 .bf16) = w from (shapeCast_id _ _).trans (shapeCast_id _ _)]
  exact Memref.write_access_unit_zero_univ (Elt F) cc0_scratch0 zeros _ f w

/-- The rights device `c` has over the barriers at the start. -/
def barStart : sProp 𝕄 :=
  iprop(cred (tallyAt (barCell c) () 2) ∗ atPos ER (barCell c) 0 ∅ 0 ∗ reached ER (barCell (xDev c)) 0 ∗ reached ER (barCell (yDev c)) 0
    ∗ dutyTok ER (barCell (xDev c)) 0 false ∗ dutyTok ER (barCell (yDev c)) 0 true)

/-- What a device pays at its `x` neighbour's barrier: its own receive buffer, and its arrival cells ready. -/
theorem pay_x : (Rd X).payload (barCell (xDev c)) 0 false
    = iprop(per (fun k => iprop(∃ f, rPts c k f)) ∗ per (fun k => reached ER (dCell c 1 k) 0)) := by
  rw [payload_bar_false]; unfold barPayX; rw [xx, ← per_sep]
/-- What a device pays at its `y` neighbour's barrier: the half of its result that the neighbour computes, and its arrival cells ready. -/
theorem pay_y : (Rd X).payload (barCell (yDev c)) 0 true
    = iprop(per (fun k => iprop(∃ f, oPts c (yDev c) k f)) ∗ per (fun k => reached ER (dCell c 3 k) 0)) := by
  rw [payload_bar_true]; unfold barPayY; rw [yy, ← per_sep]

/-- The prologue runs: the input is in the send buffer, both barriers are paid, and the neighbours' payments are had. -/
theorem prologue_run (W : Waits sig Unit) (K : PUnit → sProp 𝕄) :
    iprop(ctx X κ ∗ (((c : Thread nD τ).loc cc0_stg0_0) ↦{fullShare} X c) ∗ (∃ f, ((c : Thread nD τ).loc cc0_scratch0) ↦{fullShare} f)
        ∗ (per (fun k => iprop(∃ f, rPts c k f)) ∗ per (fun k => reached ER (dCell c 1 k) 0))
        ∗ (per (fun k => iprop(∃ f, oPts c (yDev c) k f)) ∗ per (fun k => reached ER (dCell c 3 k) 0))
        ∗ barStart c ∗ owes (c : Thread nD τ) (O₀ c) W
        ∗ (((((c : Thread nD τ).loc cc0_stg0_0) ↦{fullShare} X c) ∗ (((c : Thread nD τ).loc cc0_scratch0) ↦{fullShare} X c)
            ∗ barPayX c ∗ barPayY c ∗ atPos ER (barCell c) (0 + 1) ∅ 0 ∗ ∃ W', owes (c : Thread nD τ) (O₂ c) W') -∗ K ⟨⟩))
      ⊢ wp frame (wpE (defs₀ (F := F)) 𝒱₀ (c : Thread nD τ) none) Set.univ (prologue iM sM (Memref.isWhole_whole _) c) K := by
  unfold prologue barStart ctx
  simp only [semSignalWord, semWaitWord, Prog.lift, Prog.bind_op, Prog.bind_ret, Prog.pure_eq_ret, Prog.bind_assoc]
  iintro ⟨⟨#HI, #Hl⟩, Hi, ⟨%f, Hs⟩, Hpx, Hpy, ⟨Hcr, Hat, Hrx, Hry, Htx, Hty⟩, HO, HK⟩
  iapply (wp_load 𝒱₀ (c : Thread nD τ) none Set.univ (m := iM) (Finset.subset_univ _)) $$ Hi; iintro Hi
  rw [read_in]
  iapply (wp_load 𝒱₀ (c : Thread nD τ) none Set.univ (m := sM) (Finset.subset_univ _)) $$ Hs; iintro Hs
  iapply (wp_store 𝒱₀ (c : Thread nD τ) none Set.univ (m := sM) (r := wholeHalf) (Mk := Finset.univ) (Finset.subset_univ _)) $$ Hs; iintro Hs
  rw [write_send]
  unfold O₀
  iapply (Rounds.wp_signal 𝒱₀ ER (Rd X) (c : Thread nD τ) none (dst := (xDev c : Thread nD τ)) (κ := κ (barCell (xDev c)))
      (d := false) (by rw [duties_bar]; exact Finset.mem_univ _) ((amount_bar X (xDev c) false).trans (by decide)) () (O₁ c) rfl)
    $$ [HO Htx Hpx Hrx]
  · isplitr; · iapply (inv_bar X κ (xDev c)); iexact HI
    isplitl [HO]; · iexact HO
    isplitl [Htx]; · iexact Htx
    isplitl [Hpx]; · rw [pay_x]; iexact Hpx
    iexact Hrx
  iintro HO
  unfold O₁
  iapply (Rounds.wp_signal 𝒱₀ ER (Rd X) (c : Thread nD τ) none (dst := (yDev c : Thread nD τ)) (κ := κ (barCell (yDev c)))
      (d := true) (by rw [duties_bar]; exact Finset.mem_univ _) ((amount_bar X (yDev c) true).trans (by decide)) () (O₂ c) rfl)
    $$ [HO Hty Hpy Hry]
  · isplitr; · iapply (inv_bar X κ (yDev c)); iexact HI
    isplitl [HO]; · iexact HO
    isplitl [Hty]; · iexact Hty
    isplitl [Hpy]; · rw [pay_y]; iexact Hpy
    iexact Hry
  iintro HO
  iapply (Rounds.wp_wait_rest_token 𝒱₀ ER (Rd X) (c : Thread nD τ) none (κ := κ (barCell c))
      (wpE_semWait_eq 𝒱₀ (c : Thread nD τ) none Set.univ) (Set.mem_univ _) () (O := O₂ c) (W := W) (R := 0) (m := 0) (T := ∅)
      (by rw [expect_bar]; decide)) $$ [Hcr HO Hat]
  · isplitr; · iapply (inv_bar X κ c); iexact HI
    isplitl [Hcr]; · iexact Hcr
    isplitl [HO]; · iexact HO
    isplitr; · iapply (mayWait_bar c); iexact Hl
    iexact Hat
  iintro ⟨HO, Hat, -, Hpay⟩
  ihave Hpay := (Entails.of_eq (rest_bar X c)) $$ Hpay
  icases Hpay with ⟨HX, HY⟩
  rw [wp_ret]; imodintro
  iapply HK
  isplitl [Hi]; · iexact Hi
  isplitl [Hs]; · iexact Hs
  isplitl [HX]; · iexact HX
  isplitl [HY]; · iexact HY
  isplitl [Hat]; · iexact Hat
  iexists _; iexact HO

/-! ## The whole body -/

/-- The rights device `c` has over the copies at the start: its positions on its own cells, the duties it pays, the credits it is owed. -/
def copyStart : sProp 𝕄 :=
  iprop((bigSep Finset.univ fun x : Fin 4 × Fin 16 => iprop(atPos ER (dCell c x.1 x.2) 0 ∅ 0 ∗ reached ER (dCell c x.1 x.2) 0))
    ∗ (per (fun k => dutyTok ER (dCell c 0 k) 0 false) ∗ per (fun k => dutyTok ER (dCell (xDev c) 1 k) 0 false)
      ∗ per (fun k => dutyTok ER (dCell c 2 k) 0 false) ∗ per (fun k => dutyTok ER (dCell (yDev c) 3 k) 0 false))
    ∗ per (fun k => cred (tallyAt (dCell c 1 k) () N)) ∗ per (fun k => cred (tallyAt (dCell c 3 k) () N)))

/-- What device `c`'s body leaves: the result in place, the scratch at some contents, every counter back at zero, nothing owed. -/
def bodyEnd : sProp 𝕄 :=
  iprop((((c : Thread nD τ).loc cc0_stg0_0) ↦{fullShare} X c) ∗ (((c : Thread nD τ).loc cc0_stg1_0) ↦{fullShare} outV X c)
    ∗ (∃ f, ((c : Thread nD τ).loc cc0_scratch0) ↦{fullShare} f) ∗ (∃ f, ((c : Thread nD τ).loc cc0_scratch1) ↦{fullShare} f)
    ∗ semVal (barCell c) 0 ∗ (bigSep Finset.univ fun x : Fin 4 × Fin 16 => semVal (dCell c x.1 x.2) 0)
    ∗ ∃ W, owes (c : Thread nD τ) (0 : CellTallies nD τ sig Unit) W)

/-- The copy cells, each past its one round, are closed: every counter is at zero. -/
theorem close_copies :
    iprop(invs X κ ∗ bigSep Finset.univ fun x : Fin 4 × Fin 16 => atPos ER (dCell c x.1 x.2) (0 + 1) ∅ 0)
      ⊢ (|={Set.univ}=> bigSep Finset.univ fun x : Fin 4 × Fin 16 => semVal (dCell c x.1 x.2) 0 : sProp 𝕄) :=
  (bigSep_with_persistent (R := invs X κ) (Ψ := fun x : Fin 4 × Fin 16 => iprop(cellInv ER (Rd X) (κ (dCell c x.1 x.2)) (dCell c x.1 x.2) ∗ atPos ER (dCell c x.1 x.2) (0 + 1) ∅ 0))
      fun x _ => sep_mono_left (inv_copy X κ c x.1 x.2)).trans
    (Rounds.cells_close ER (Rd X) Finset.univ (fun x : Fin 4 × Fin 16 => dCell c x.1 x.2) (fun x => κ (dCell c x.1 x.2)) (fun _ _ => Set.mem_univ _)
      (fun _ _ h => h) (fun _ => 0 + 1) (fun x _ => duties_later X (dCell c x.1 x.2)))

/-- The body runs, from the buffers, the rights and the debts of the start to the sums in the result and nothing owed. -/
theorem body_run (W : Waits sig Unit) (K : PUnit → sProp 𝕄) :
    iprop(ctx X κ ∗ (((c : Thread nD τ).loc cc0_stg0_0) ↦{fullShare} X c) ∗ (∃ f, ((c : Thread nD τ).loc cc0_stg1_0) ↦{fullShare} f)
        ∗ (∃ f, ((c : Thread nD τ).loc cc0_scratch0) ↦{fullShare} f) ∗ (∃ f, ((c : Thread nD τ).loc cc0_scratch1) ↦{fullShare} f)
        ∗ barStart c ∗ copyStart c ∗ owes (c : Thread nD τ) (O₀ c) W
        ∗ (bodyEnd X c -∗ K ⟨⟩))
      ⊢ wp frame (wpE (defs₀ (F := F)) 𝒱₀ (c : Thread nD τ) none) Set.univ
          (cc0_body iM (Memref.isWhole_whole _) oM (Memref.isWhole_whole _) sM (Memref.isWhole_whole _) rM (Memref.isWhole_whole _)
            cc0_scratch2 cc0_scratch3 cc0_scratch4 cc0_scratch5) K := by
  rw [body_eq_steps]
  unfold steps copyStart
  simp only [Prog.lift, Prog.bind_op, Prog.bind_ret, wp_deviceId]
  rw [wp_bind]
  iintro ⟨#HC, Hi, ⟨%fo, Ho⟩, Hs, ⟨%fr, Hr⟩, HB, ⟨Hcells, ⟨Ht0, Ht1, Ht2, Ht3⟩, Hc1, Hc3⟩, HO, HK⟩
  ihave Hcells := (Entails.of_eq (cells_eq (F := F) fun j k => iprop(atPos ER (dCell c j k) 0 ∅ 0 ∗ reached ER (dCell c j k) 0))) $$ Hcells
  icases Hcells with ⟨H0, H1, H2, H3⟩
  ihave H0 := (Entails.of_eq (per_sep _ _)) $$ H0; icases H0 with ⟨Ha0, Hr0⟩
  ihave H1 := (Entails.of_eq (per_sep _ _)) $$ H1; icases H1 with ⟨Ha1, Hr1⟩
  ihave H2 := (Entails.of_eq (per_sep _ _)) $$ H2; icases H2 with ⟨Ha2, Hr2⟩
  ihave H3 := (Entails.of_eq (per_sep _ _)) $$ H3; icases H3 with ⟨Ha3, Hr3⟩
  ihave Ho := (Entails.of_eq (o_split c fo)) $$ Ho; icases Ho with ⟨Hoc, Hoy⟩
  ihave Hr := (Entails.of_eq (r_split c fr)) $$ Hr
  iapply (prologue_run X κ c W _)
  isplitr; · iexact HC
  isplitl [Hi]; · iexact Hi
  isplitl [Hs]; · iexact Hs
  isplitl [Hr Hr1]
  · isplitl [Hr]
    · iapply (per_mono (Φ := fun k => rPts c k fr) (Ψ := fun k => iprop(∃ f, rPts c k f)) fun k => by iintro H; iexists fr; iexact H); iexact Hr
    iexact Hr1
  isplitl [Hoy Hr3]
  · isplitl [Hoy]
    · iapply (per_mono (Φ := fun k => oPts c (yDev c) k fo) (Ψ := fun k => iprop(∃ f, oPts c (yDev c) k f)) fun k => by iintro H; iexists fo; iexact H); iexact Hoy
    iexact Hr3
  isplitl [HB]; · iexact HB
  isplitl [HO]; · iexact HO
  iintro ⟨Hi, Hs, HX, HY, HatB, %W', HO⟩
  ihave Hs := (Entails.of_eq (s_split fullShare c (X c))) $$ Hs
  rw [wp_bind]
  iapply (wp_pass c (ctx X κ) _ (sendInv c) (sendPre X c) (sendPost X c) (send_step X κ c) chunks _)
  isplitr; · iexact HC
  isplitl [HO]; · unfold sendInv O₂; iexists W'; iexact HO
  isplitl [Hs HX Ht1 Ht0 Hr0]
  · iapply (Entails.of_eq (sendPre_all X c).symm)
    isplitl [Hs]; · iexact Hs
    isplitl [HX]; · iexact HX
    isplitl [Ht1]; · iexact Ht1
    isplitl [Ht0] <;> iassumption
  iintro ⟨HO, Hq⟩
  ihave Hq := (Entails.of_eq (sendPost_all X c)) $$ Hq; icases Hq with ⟨HsR, Hc0⟩
  rw [wp_bind]
  iapply (wp_pass c (ctx X κ) _ (sumInv c) (sumPre X c) (sumPost X c) (sum_step X κ c) chunks _)
  isplitr; · iexact HC
  isplitl [HO]
  · unfold sendInv sumInv owedX; icases HO with ⟨%W2, HO⟩; iexists W2; rw [add_zero]; iexact HO
  isplitl [HsR Hc1 Ha1 Hoc HY Ht3 Ht2 Hr2]
  · iapply (Entails.of_eq (sumPre_all X c).symm)
    isplitl [HsR]; · iexact HsR
    isplitl [Hc1]; · iexact Hc1
    isplitl [Ha1]; · iexact Ha1
    isplitl [Hoc]
    · iapply (per_mono (Φ := fun k => oPts c c k fo) (Ψ := fun k => iprop(∃ f, oPts c c k f)) fun k => by iintro H; iexists fo; iexact H); iexact Hoc
    isplitl [HY]; · iexact HY
    isplitl [Ht3]; · iexact Ht3
    isplitl [Ht2] <;> iassumption
  iintro ⟨HO, Hq⟩
  ihave Hq := (Entails.of_eq (sumPost_all X c)) $$ Hq; icases Hq with ⟨HsR, Hrr, Ha1, Hc2⟩
  iapply (wp_fupd _ _)
  iapply (wp_pass c (ctx X κ) _ (doneInv c) (donePre c) (donePost X c) (done_step X κ c) chunks _)
  isplitr; · iexact HC
  isplitl [HO]
  · unfold sumInv doneInv owedY; iexact HO
  isplitl [Hc0 Hc2 Hc3 Ha0 Ha2 Ha3]
  · iapply (Entails.of_eq (donePre_all (F := F) c).symm)
    isplitl [Hc0 Hc2 Hc3]
    · isplitl [Hc0]; · iexact Hc0
      isplitl [Hc2] <;> iassumption
    isplitl [Ha0]; · iexact Ha0
    isplitl [Ha2] <;> iassumption
  iintro ⟨HO, Hq⟩
  ihave Hq := (Entails.of_eq (donePost_all X c)) $$ Hq; icases Hq with ⟨⟨Ha0, Ha2, Ha3⟩, HsL, Hoc, Hoy⟩
  unfold ctx
  icases HC with ⟨HI, -⟩
  imod (close_copies X κ c) $$ [Ha0 Ha1 Ha2 Ha3] with HZ
  · isplitr; · iexact HI
    iapply (Entails.of_eq (cells_eq (F := F) fun j k => atPos ER (dCell c j k) (0 + 1) ∅ 0).symm)
    isplitl [Ha0]; · iexact Ha0
    isplitl [Ha1]; · iexact Ha1
    isplitl [Ha2] <;> iassumption
  imod (Rounds.cell_close ER (Rd X) (Set.mem_univ (κ (barCell c))) (fun h => h) (R := 0 + 1) (duties_later X (barCell c))) $$ [HatB] with HzB
  · isplitr; · iapply (inv_bar X κ c); iexact HI
    iexact HatB
  imodintro
  iapply HK
  unfold bodyEnd
  isplitl [Hi]; · iexact Hi
  isplitl [Hoc Hoy]
  · rw [o_split]; isplitl [Hoc] <;> iassumption
  isplitl [HsL HsR]
  · iexists (X c); rw [s_split]
    iapply (per_mono fun k => (s_halves c k (X c)).2)
    rw [per_sep]; isplitl [HsL] <;> iassumption
  isplitl [Hrr]
  · iexists (X (xDev c)); rw [r_split]; iexact Hrr
  isplitl [HzB]; · iexact HzB
  isplitl [HZ]; · iexact HZ
  unfold doneInv; iexact HO

end Body

end Cert.Proof
end
-- ==== Proof.Region.lean ====
module

public import proofs.«01_k».proof.Proof.Body
public import proofs.«01_k».proof.Proof.Gen.KernelIdeal.Regions
public import Idealize.ShloMosaic.Lib.Pipeline.RegionTalk
public import Idealize.ShloMosaic.Lib.Pipeline.Value

/-! The kernel call as a segment of the program: the buffers it finds and leaves, and the rights it takes over. -/

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## Contents -/

/-- The half slices the host leaves on the devices. -/
def half : Halves F := fun c => V1 m c main_v9
/-- The buffers after the kernel: the result holds the sum. -/
abbrev Vend (c : Dev nD) : Valuation τ sig (Elt F) := Function.update (V1 m c) main_v10 (outV (half m) c)

/-- After the kernel the result holds the sums. -/
theorem Vend_result (c : Dev nD) : Vend m c main_v10 = outV (half m) c := Function.update_self _ _ _
/-- After the kernel every other buffer is as before. -/
theorem Vend_of (c : Dev nD) (r : Ref sig .tc) (h : r ≠ main_v10) : Vend m c r = V1 m c r :=
  Function.update_of_ne (StableHlo.devRef_ne_of_ne h) _ _
/-- After the kernel the argument is as at the start. -/
theorem Vend_arg0 (c : Dev nD) : Vend m c main_arg0 = m ((c : Thread nD τ).loc main_arg0) :=
  (Vend_of m c main_arg0 (by decide)).trans ((V1_of m c main_arg0 (by decide)).trans rfl)

/-! ## The call's data -/

/-- The send and receive buffers, whatever they hold. -/
def scratch (c : Dev nD) : sProp 𝕄 :=
  iprop((∃ f, ((c : Thread nD τ).loc cc0_scratch0) ↦{fullShare} f) ∗ (∃ f, ((c : Thread nD τ).loc cc0_scratch1) ↦{fullShare} f))
/-- The rights device `c` enters with. -/
def enter (c : Dev nD) : sProp 𝕄 := iprop(∃ κ, ctx (half m) κ ∗ barStart c ∗ copyStart c)
/-- The counters at zero that device `c` leaves with. -/
def leave (c : Dev nD) : sProp 𝕄 := iprop(semVal (barCell c) 0 ∗ bigSep Finset.univ fun x : Fin 4 × Fin 16 => semVal (dCell c x.1 x.2) 0)

/-- The call on device `c`: what its arrays hold before and after, what it has and what it owes. -/
def dat0 (c : Dev nD) : Dat τ (Elt F) Unit ℕ UU ℕ cfg0 c where
  A w := V1 m c (Proc.devRef .tc (Pipeline.arrRef spec0 w))
  after w _ := match w with
    | ⟨0, _⟩ => half m c
    | ⟨1, _⟩ => outV (half m) c
  Φ t := if t.val = 0 then iprop(enter m c ∗ scratch c ∗ ∃ r, prngReg c r) else iprop(leave c ∗ scratch c ∗ ∃ r, prngReg c r)
  q _ := fullShare
  owed t := if t.val = 0 then O₀ c else 0

/-- The one call of the program. -/
def pdats : (p : Fin 1) → (c : Dev nD) → Dat τ (Elt F) Unit ℕ UU ℕ (cfgs p) c
  | 0 => dat0 m

/-- At its start the call owes what the launch gave it to owe. -/
theorem owed_first (c : Dev nD) : (dat0 m c).owed t0_0.castSucc = O₀ c := rfl
/-- At its end it owes nothing. -/
theorem owed_last (c : Dev nD) : (dat0 m c).owed t0_0.succ = 0 := rfl
/-- At its end it has its counters at zero and its scratch buffers. -/
theorem phi_last (c : Dev nD) : (dat0 m c).Φ t0_0.succ = iprop(leave c ∗ scratch c ∗ ∃ r, prngReg c r) := rfl
/-- A window over a whole array reads and writes every element in its own place. -/
theorem whole_emb0 (j : ((cfg0.win 0).rect t0_0).shape.Idx) (a : Fin 2) : ((((cfg0.win 0).blk t0_0).view.emb j) a).val = (j a).val := by
  show ((((cfg0.win 0).rect t0_0).emb j) a).val = (j a).val
  rw [Rect.emb_apply]
  show 0 * _ + 1 * (j a).val = _
  omega
/-- The same of the result's window. -/
theorem whole_emb1 (j : ((cfg0.win 1).rect t0_0).shape.Idx) (a : Fin 2) : ((((cfg0.win 1).blk t0_0).view.emb j) a).val = (j a).val := by
  show ((((cfg0.win 1).rect t0_0).emb j) a).val = (j a).val
  rw [Rect.emb_apply]
  show 0 * _ + 1 * (j a).val = _
  omega
/-- The input's buffer holds the half slice when the body starts. -/
theorem before_in (c : Dev nD) (d : (cfg0.win 0).block.Idx → Elt F (cfg0.win 0).elt) : (dat0 m c).before 0 t0_0 d = half m c := by
  unfold Dat.before; rw [if_pos (fetch0_0 _)]
  have hc : ∀ a, (cfg0.win 0).clip (cfg0.grid.coords t0_0) a = none := fun _ => rfl
  funext j
  have hm : (cfg0.win 0).moved (cfg0.grid.coords t0_0) j = true :=
    ((cfg0.win 0).moved_iff _ j).mpr fun a => by have := (j a).isLt; unfold Pipeline.Window.xsize; rw [hc a]; exact this
  unfold Dat.fetched Pipeline.Window.fill
  rw [dif_pos hm]
  unfold Dat.blockOf
  rw [View.read_apply]
  refine (cast_eq _ _).trans (congrArg (V1 m c main_v9) ?_)
  funext a; apply Fin.ext
  rw [whole_emb0]

/-- To own a whole buffer is to hold all its elements. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A debt of the right amount is the call's debt. -/
theorem owesAt_intro (c : Dev nD) (t : Fin (cfg0.N + 1)) (O : CellTallies nD τ sig Unit) (h : (dat0 m c).owed t = O) (W : Waits sig Unit) :
    (owes (c : Thread nD τ) O W : sProp 𝕄) ⊢ (dat0 m c).owesAt () t := by
  unfold Dat.owesAt Pipeline.owesWithin Dat.bound; rw [h]
  iintro HO; iexists W; isplitr; · ipureintro; exact fun _ _ => Or.inl trivial
  iexact HO
/-- The call's debt is a debt of that amount. -/
theorem owesAt_elim (c : Dev nD) (t : Fin (cfg0.N + 1)) (O : CellTallies nD τ sig Unit) (h : (dat0 m c).owed t = O) :
    (dat0 m c).owesAt () t ⊢ (iprop(∃ W, owes (c : Thread nD τ) O W) : sProp 𝕄) := by
  unfold Dat.owesAt Pipeline.owesWithin; rw [h]
  iintro ⟨%W, -, HO⟩; iexists W; iexact HO

/-- What the call runs at its one point. -/
theorem body_at : (defs₀ (F := F)) .tc cfg0.body (cfg0.bodyArgs t0_0 (cfg0.slots t0_0)) = (cc0_body iM (Memref.isWhole_whole _) oM (Memref.isWhole_whole _) sM (Memref.isWhole_whole _) rM (Memref.isWhole_whole _)
        cc0_scratch2 cc0_scratch3 cc0_scratch4 cc0_scratch5 : Prog (TpuEff nD τ sig (Elt F) Λ₀ .tc) PUnit) := rfl
/-- The body meets its obligation at the call's one point. -/
theorem body0 (c : Dev nD) : BodyObligation (dat0 m c) (defs₀ (F := F)) 𝒱₀ () Set.univ := fun t => by
  obtain rfl := fin_N0 t
  rw [bigSep_W0, bigSep_W0]
  simp only [owns_whole_eq]
  rw [body_at]
  refine Entails.trans (Q := iprop((enter m c ∗ scratch c ∗ ∃ r, prngReg c r) ∗ (dat0 m c).owesAt () t0_0.castSucc
      ∗ (∃ d, ∃ f : Buf (Elt F) ((c : Thread nD τ).loc cc0_stg0_0), ⌜f = (dat0 m c).before 0 t0_0 d⌝ ∗ (((c : Thread nD τ).loc cc0_stg0_0) ↦{fullShare} f))
      ∗ (∃ d, ∃ f : Buf (Elt F) ((c : Thread nD τ).loc cc0_stg1_0), ⌜f = (dat0 m c).before 1 t0_0 d⌝ ∗ (((c : Thread nD τ).loc cc0_stg1_0) ↦{fullShare} f)))) .rfl ?_
  unfold enter scratch
  iintro ⟨⟨⟨%κ, #HC, HB, HD⟩, ⟨Hs, Hr⟩, Hp⟩, HO, ⟨%d0, %f0, %h0, Hi⟩, ⟨%d1, %f1, %h1, Ho⟩⟩
  rw [before_in] at h0
  subst h0
  ihave HO := (owesAt_elim m c _ (O₀ c) (owed_first m c)) $$ HO
  icases HO with ⟨%W, HO⟩
  iapply (body_run (half m) κ c W _)
  isplitr; · iexact HC
  isplitl [Hi]; · iexact Hi
  isplitl [Ho]; · iexists f1; iexact Ho
  isplitl [Hs]; · iexact Hs
  isplitl [Hr]; · iexact Hr
  isplitl [HB]; · iexact HB
  isplitl [HD]; · iexact HD
  isplitl [HO]; · iexact HO
  rw [phi_last]
  unfold bodyEnd leave scratch
  iintro ⟨Hi, Ho, Hs, Hr, Hb, Hd, ⟨%W', HO⟩⟩
  isplitl [Hs Hr Hp Hb Hd]
  · isplitl [Hb Hd]; · isplitl [Hb] <;> iassumption
    isplitl [Hs Hr]; · isplitl [Hs] <;> iassumption
    iexact Hp
  isplitl [HO]; · iapply (owesAt_intro m c _ 0 (owed_last m c) W'); iexact HO
  isplitl [Hi]
  · iexists (half m c); isplitr; · (ipureintro; rfl)
    iexact Hi
  iexists (outV (half m) c); isplitr; · (ipureintro; rfl)
  iexact Ho

/-! ## The arrays after the call -/

/-- The result's one block is all of it. -/
theorem block_covers (i : S2048x512.Idx) : i ∈ ((cfg0.win 1).blk t0_0).view.set := by
  show i ∈ ((View.whole main_v10).slice (win0_1.rect t0_0)).set
  rw [View.set_slice_whole]
  refine Rect.mem_set_unit.mpr fun a => ?_
  have h := (i a).isLt
  show 0 * _ ≤ (i a).val ∧ (i a).val < 0 * _ + S2048x512.size a
  omega
/-- The block written back is the result's. -/
theorem block_is (c : Dev nD) (t : Fin cfg0.N) : (dat0 m c).flushed 1 t = ((cfg0.win 1).blk t).view.read (Elt F) (outV (half m) c) := by
  obtain rfl := fin_N0 t
  unfold Dat.flushed
  funext j
  rw [View.read_apply]
  refine Eq.trans ?_ (cast_eq _ _).symm
  refine congrArg (outV (half m) c) ?_
  funext a; apply Fin.ext
  rw [whole_emb1]
/-- The result's array after the call. -/
theorem final_out (c : Dev nD) : (dat0 m c).arrAt 1 cfg0.N = outV (half m) c :=
  (dat0 m c).arrAt_eq_of_cover 1 (outV (half m) c) (fun t _ => block_is m c t) fun i => ⟨t0_0, flush0_1 _, block_covers i⟩
/-- The input's array after the call. -/
theorem final_in (c : Dev nD) : (dat0 m c).arrAt 0 cfg0.N = half m c := (dat0 m c).arrAt_in 0 rfl _

/-! ## The call as a segment -/

/-- The counters the kernel allocates itself: four families of sixteen. -/
def osem (x : Fin 4 × Fin 16) : SemLoc sig := .dma (dsem x.1 x.2)
/-- These counters are the kernel's own and not the windows'. -/
theorem osem_facts : Pipeline.OwnSemFacts spec0 osem := by decide +kernel

/-- The rights to discharge device `c`'s duties on the copy counters. -/
def copyToks (c : Dev nD) : sProp 𝕄 :=
  iprop((per (fun k => dutyTok ER (dCell c 0 k) 0 false) ∗ per (fun k => dutyTok ER (dCell (xDev c) 1 k) 0 false)
      ∗ per (fun k => dutyTok ER (dCell c 2 k) 0 false) ∗ per (fun k => dutyTok ER (dCell (yDev c) 3 k) 0 false)))
/-- The claims device `c` has on its neighbours' copies. -/
def copyCreds (c : Dev nD) : sProp 𝕄 :=
  iprop(per (fun k => cred (tallyAt (dCell c 1 k) () N)) ∗ per (fun k => cred (tallyAt (dCell c 3 k) () N)))
/-- What device `c` holds from the start of the program until the call. -/
def talk (c : Dev nD) : sProp 𝕄 :=
  iprop((∃ κ, invs (half m) κ) ∗ barStart c ∗ (bigSep Finset.univ fun x : Fin 4 × Fin 16 => openTok ER (dCell c x.1 x.2)) ∗ copyToks c ∗ copyCreds c)

/-- Before the call starts, the cells of its counters are opened. -/
theorem call_open (c : Dev nD) : iprop(talk m c ∗ Pipeline.ownSems0 osem c ∗ levAts L lv) ⊢ (|={Set.univ}=> enter m c : sProp 𝕄) := by
  unfold talk
  iintro ⟨⟨⟨%κ, #HI⟩, HB, Ho, HT, HC⟩, Hz, #HL⟩
  ihave Hc := (bigSep_with_persistent (S := Finset.univ) (R := invs (half m) κ) (Φ := fun x : Fin 4 × Fin 16 => openTok ER (dCell c x.1 x.2))
    (Ψ := fun x : Fin 4 × Fin 16 => iprop(cellInv ER (Rd (half m)) (κ (dCell c x.1 x.2)) (dCell c x.1 x.2) ∗ openTok ER (dCell c x.1 x.2)))
    fun x _ => sep_mono_left (inv_copy (half m) κ c x.1 x.2)) $$ [Ho]
  · isplitr; · iexact HI
    iexact Ho
  imod (Rounds.cells_open ER (Rd (half m)) Finset.univ (fun x : Fin 4 × Fin 16 => dCell c x.1 x.2) (fun x => κ (dCell c x.1 x.2))
    (fun _ _ => Set.mem_univ _)) $$ [Hc Hz] with Hat
  · isplitl [Hc]; · iexact Hc
    unfold Pipeline.ownSems0; iexact Hz
  imodintro
  unfold enter ctx copyStart copyToks copyCreds
  iexists κ
  isplitr
  · isplitr; · iexact HI
    iexact HL
  isplitl [HB]; · iexact HB
  isplitl [Hat]; · iexact Hat
  isplitl [HT]; · iexact HT
  iexact HC

/-- To hold no buffers is to hold nothing. -/
theorem held_none (c : Dev nD) (W : Valuation τ sig (Elt F)) : (StableHlo.held (c.tc : Thread nD τ) ∅ W : sProp 𝕄) = BI.emp := by
  unfold StableHlo.held; exact BI.bigSep_empty

/-- What the call has when it starts. -/
theorem call_in (c : Dev nD) : iprop(Pipeline.scopedRest spec0 c ∗ (∃ r, prngReg c r) ∗ StableHlo.held (c.tc : Thread nD τ) ∅ (V1 m c) ∗ enter m c)
    ⊢ (dat0 m c).Φ 0 := by
  rw [show (dat0 m c).Φ 0 = iprop(enter m c ∗ scratch c ∗ ∃ r, prngReg c r) from rfl, scopedRest0_eq, held_none]
  unfold scratch
  iintro ⟨Hs, Hp, -, HE⟩
  isplitl [HE]; · iexact HE
  isplitl [Hs]; · iexact Hs
  iexact Hp

/-- What the call gives back when it ends. -/
theorem call_out (c : Dev nD) : (dat0 m c).Φ (Fin.last cfg0.N)
    ⊢ iprop(Pipeline.scopedRest spec0 c ∗ (∃ r, prngReg c r) ∗ StableHlo.held (c.tc : Thread nD τ) ∅ (Vend m c) ∗ Pipeline.ownSems0 osem c ∗ semVal (barCell c) 0) := by
  rw [show (dat0 m c).Φ (Fin.last cfg0.N) = iprop(leave c ∗ scratch c ∗ ∃ r, prngReg c r) from rfl, scopedRest0_eq, held_none]
  unfold leave scratch Pipeline.ownSems0
  iintro ⟨⟨Hb, Hd⟩, Hs, Hp⟩
  isplitl [Hs]; · iexact Hs
  isplitl [Hp]; · iexact Hp
  isplitr; · iempintro
  isplitl [Hd]; · iexact Hd
  iexact Hb

/-- The facts about the call's windows and buffers. -/
theorem layout0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers outside the call. -/
def beside : Finset (DevRef τ sig) := Pipeline.ucRefs τ sig \ Pipeline.arrRefs spec0
/-- The call changes no buffer outside it. -/
theorem beside_same (c : Dev nD) (b : DevRef τ sig) (hb : b ∈ beside \ ∅) : Vend m c b = V1 m c b := by
  rw [Finset.sdiff_empty] at hb
  refine Function.update_of_ne (fun h => (Finset.mem_sdiff.mp hb).2 ?_) _ _
  rw [h]
  exact Finset.mem_map_of_mem _ (Finset.mem_image_of_mem _ (Finset.mem_univ (1 : Fin 2)))

/-- What the call owes is on cells that have a level above zero. -/
theorem owed_cut (c : Dev nD) (t : Fin (cfg0.N + 1)) (g : GSem nD τ sig) (i : Unit) (h : 0 < (dat0 m c).owed t g i) : i ∈ L g ∧ (0 : ℕ) < lv g i := by
  have e : (dat0 m c).owed t = if t.val = 0 then O₀ c else 0 := rfl
  rw [e] at h
  split at h
  · exact O₀_cut h
  · exact absurd h (Nat.lt_irrefl 0)

set_option backward.isDefEq.respectTransparency.types false in
/-- The call as a segment of the program. -/
def call : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ beside (Finset.empty_subset _) layout0 rfl (fun c => (body0 m c).loose)
    (fun _ => 0) O₀ (fun c => (zero_add _).symm) (fun _ => rfl) (fun _ => rfl) (fun c w => by unfold Dat.share; split <;> rfl)
    (V1 m) (Vend m) (beside_same m)
    (talk m) (fun c => semVal (barCell c) 0) (enter m) (fun c => semVal (barCell c) 0) (call_open m) (call_in m) (call_out m)
    (fun c => by iintro H; imodintro; iexact H)
    (fun _ => 0)
    ⟨fun c w s => by rw [L_tc]; exact Finset.mem_singleton_self _, fun c w s => match w with
      | ⟨0, _⟩ => match s with | ⟨0, _⟩ => Nat.le_refl 0
      | ⟨1, _⟩ => match s with | ⟨0, _⟩ => Nat.le_refl 0, fun c t g i h => owed_cut m c t g i h⟩
    (fun _ => iprop(emp))
    (fun c w => rfl)
    (fun c w => match w with
      | ⟨0, _⟩ => (final_in m c).trans (Vend_of m c main_v9 (by decide)).symm
      | ⟨1, _⟩ => (final_out m c).trans (Vend_result m c).symm)

/-- The buffers are those of the call's arrays and the rest. -/
theorem held_parts (c : Dev nD) (W : Valuation τ sig (Elt F)) : (StableHlo.held (c : Thread nD τ) (Pipeline.ucRefs τ sig) W : sProp 𝕄)
    = iprop(StableHlo.held (c.tc : Thread nD τ) (Pipeline.arrRefs (τ := τ) spec0) W ∗ StableHlo.held (c.tc : Thread nD τ) beside W) :=
  StableHlo.held_sub_split (c : Thread nD τ) (Pipeline.arrRefs_sub_ucRefs spec0 (by decide)) W

/-- What the call starts from, out of all the buffers. -/
theorem call_pre (c : Dev nD) : iprop(StableHlo.held (c : Thread nD τ) (Pipeline.ucRefs τ sig) (V1 m c)
      ∗ talk m c ∗ (∃ r, prngReg c r) ∗ ∃ W, owes (c : Thread nD τ) (O₀ c) W) ⊢ (call m).pre c := by
  show _ ⊢ iprop(StableHlo.held (c.tc : Thread nD τ) (Pipeline.arrRefs (τ := τ) spec0) (V1 m c) ∗ (∃ r, prngReg c r)
    ∗ (StableHlo.held (c.tc : Thread nD τ) beside (V1 m c) ∗ emp) ∗ talk m c ∗ ∃ Wd, owes (c : Thread nD τ) (0 + O₀ c) Wd)
  rw [zero_add, held_parts]
  iintro ⟨⟨Ha, Hb⟩, HT, Hp, HO⟩
  isplitl [Ha]; · iexact Ha
  isplitl [Hp]; · iexact Hp
  isplitl [Hb]
  · isplitl [Hb]; · iexact Hb
    iempintro
  isplitl [HT] <;> iassumption

/-- What the call ends with, back in all the buffers. -/
theorem call_post (c : Dev nD) : (call m).post c ⊢ iprop(StableHlo.held (c : Thread nD τ) (Pipeline.ucRefs τ sig) (Vend m c)
      ∗ semVal (barCell c) 0 ∗ ∃ W, owes (c : Thread nD τ) (0 : CellTallies nD τ sig Unit) W) := by
  show iprop(StableHlo.held (c.tc : Thread nD τ) (Pipeline.arrRefs (τ := τ) spec0) (Vend m c) ∗ (∃ r, prngReg c r)
    ∗ (StableHlo.held (c.tc : Thread nD τ) beside (Vend m c) ∗ emp) ∗ semVal (barCell c) 0 ∗ ∃ Wd, owes (c : Thread nD τ) (0 : CellTallies nD τ sig Unit) Wd) ⊢ _
  rw [held_parts]
  iintro ⟨Ha, -, ⟨Hb, -⟩, Hz, HO⟩
  isplitl [Ha Hb]; · isplitl [Ha] <;> iassumption
  isplitl [Hz] <;> iassumption

end Cert.Proof
end
-- ==== Proof.Deal.lean ====
module

public import proofs.«01_k».proof.Proof.Region

/-! What the launch hands each device: the duties it will discharge, and the claims it has on its neighbours’ duties. -/

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Duties -/

/-- A copy cell tells its device, its array and its chunk. -/
theorem dCell_inj {c d : Dev nD} {j j' : Fin 4} {k k' : Fin 16} (h : dCell c j k = dCell d j' k') : c = d ∧ j = j' ∧ k = k' := by
  have := copyEmb.injective (a₁ := (c, (j, k))) (a₂ := (d, (j', k'))) h
  exact ⟨congrArg Prod.fst this, congrArg (fun x => x.2.1) this, congrArg (fun x => x.2.2) this⟩
/-- No copy cell is a barrier cell. -/
theorem dCell_ne_bar {c d : Dev nD} {j : Fin 4} {k : Fin 16} : dCell c j k ≠ barCell d := fun h => nomatch (congrArg Prod.snd h)
/-- A barrier cell tells its device. -/
theorem barCell_inj {c d : Dev nD} (h : barCell c = barCell d) : c = d := barEmb.injective h

/-- The barrier cells and the copy cells do not meet. -/
theorem disjoint_cells : Disjoint (barCells : Finset (GSem nD τ sig)) copyCells := by
  rw [Finset.disjoint_left]
  intro g h h'
  obtain ⟨c, -, rfl⟩ := Finset.mem_map.mp h
  obtain ⟨x, -, e⟩ := Finset.mem_map.mp h'
  exact dCell_ne_bar e

/-- The duties on the barrier cells, two on each. -/
def barDuty : Dev nD × Bool ↪ GSem nD τ sig × ℕ × Bool :=
  ⟨fun x => (barCell x.1, 0, x.2), fun _ _ h => Prod.ext (barCell_inj (congrArg Prod.fst h)) (congrArg (fun y => y.2.2) h)⟩
/-- The duties on the copy cells, one on each. -/
def copyDuty : Dev nD × (Fin 4 × Fin 16) ↪ GSem nD τ sig × ℕ × Bool :=
  ⟨fun x => (dCell x.1 x.2.1 x.2.2, 0, false), fun _ _ h => copyEmb.injective (congrArg Prod.fst h)⟩
/-- Every duty there is. -/
def duties : Finset (GSem nD τ sig × ℕ × Bool) := Finset.univ.map barDuty ∪ Finset.univ.map copyDuty

/-- The duties on the two kinds of cells do not meet. -/
theorem disjoint_duties : Disjoint (Finset.univ.map barDuty) (Finset.univ.map copyDuty) := by
  rw [Finset.disjoint_left]
  intro g h h'
  obtain ⟨c, -, rfl⟩ := Finset.mem_map.mp h
  obtain ⟨x, -, e⟩ := Finset.mem_map.mp h'
  exact dCell_ne_bar (congrArg Prod.fst e)

/-- Each duty goes to the device that discharges it. -/
theorem deal_duties : bigSep duties (fun x => (dutyTok ER x.1 x.2.1 x.2.2 : sProp 𝕄))
    ⊢ bigSep Finset.univ fun c : Dev nD => iprop((dutyTok ER (barCell (xDev c)) 0 false ∗ dutyTok ER (barCell (yDev c)) 0 true) ∗ copyToks c) := by
  have hb : bigSep (Finset.univ.map barDuty) (fun x => (dutyTok ER x.1 x.2.1 x.2.2 : sProp 𝕄))
      = iprop((bigSep Finset.univ fun c : Dev nD => dutyTok ER (barCell (xDev c)) 0 false) ∗ bigSep Finset.univ fun c : Dev nD => dutyTok ER (barCell (yDev c)) 0 true) := by
    rw [bigSep_map, bigSep_univ_prod,
      bigSep_univ_equiv xEquiv.symm (fun c : Dev nD => (dutyTok ER (barCell (xDev c)) 0 false : sProp 𝕄)),
      bigSep_univ_equiv yEquiv.symm (fun c : Dev nD => (dutyTok ER (barCell (yDev c)) 0 true : sProp 𝕄)), ← bigSep_sep']
    refine bigSep_congr fun c _ => ?_
    rw [show xDev (xEquiv.symm c) = c from xx c, show yDev (yEquiv.symm c) = c from yy c]
    rw [bigSep_univ_eq_bigSepL [false, true] (by decide) (by decide), bigSepL_cons_cons, bigSepL_singleton]
    rfl
  have hc : bigSep (Finset.univ.map copyDuty) (fun x => (dutyTok ER x.1 x.2.1 x.2.2 : sProp 𝕄)) = bigSep Finset.univ fun c : Dev nD => copyToks c := by
    rw [bigSep_map, bigSep_univ_prod]
    unfold copyToks
    rw [bigSep_sep', bigSep_sep', bigSep_sep',
      bigSep_univ_equiv xEquiv.symm (fun c : Dev nD => per fun k => (dutyTok ER (dCell (xDev c) 1 k) 0 false : sProp 𝕄)),
      bigSep_univ_equiv yEquiv.symm (fun c : Dev nD => per fun k => (dutyTok ER (dCell (yDev c) 3 k) 0 false : sProp 𝕄)), ← bigSep_sep', ← bigSep_sep', ← bigSep_sep']
    refine bigSep_congr fun c _ => ?_
    rw [show xDev (xEquiv.symm c) = c from xx c, show yDev (yEquiv.symm c) = c from yy c]
    exact cells_eq fun j k => (dutyTok ER (dCell c j k) 0 false : sProp 𝕄)
  unfold duties
  rw [BI.bigSep_union disjoint_duties, hb, hc, bigSep_sep', bigSep_sep']
  exact BI.Entails.refl _

/-! ## Claims -/

/-- How much device `d` owes on an arrival cell along `x`: one copy for each listing of the chunk, if the cell is its neighbour's. -/
theorem owedX_at (d c : Dev nD) (ks : List (Fin 16)) (k : Fin 16) : owedX d ks (dCell c 1 k) () = if d = xDev c then N * ks.count k else 0 := by
  induction ks with
  | nil => show 0 = _; rw [List.count_nil, Nat.mul_zero, ite_self]
  | cons k' ks ih =>
    show (owedX d ks + tallyAt (dCell (xDev d) 1 k') () N) (dCell c 1 k) () = _
    rw [Pi.add_apply, Finsupp.add_apply, ih, tallyAt_apply, List.count_cons]
    by_cases h : d = xDev c
    · subst h
      rw [if_pos rfl, if_pos rfl, xx]
      by_cases hk : k' = k
      · subst hk; rw [if_pos ⟨rfl, rfl⟩, if_pos (beq_self_eq_true _), Nat.mul_add, Nat.mul_one]
      · rw [if_neg (fun e => hk (dCell_inj e.1).2.2.symm), if_neg (fun e => hk (eq_of_beq e))]
        rfl
    · rw [if_neg h, if_neg h, if_neg (fun e => h (by rw [(dCell_inj e.1).1, xx]))]
/-- How much device `d` owes on an arrival cell along `y`: one copy for each listing of the chunk, if the cell is its neighbour's. -/
theorem owedY_at (d c : Dev nD) (ks : List (Fin 16)) (k : Fin 16) : owedY d ks (dCell c 3 k) () = if d = yDev c then N * ks.count k else 0 := by
  induction ks with
  | nil => show 0 = _; rw [List.count_nil, Nat.mul_zero, ite_self]
  | cons k' ks ih =>
    show (owedY d ks + tallyAt (dCell (yDev d) 3 k') () N) (dCell c 3 k) () = _
    rw [Pi.add_apply, Finsupp.add_apply, ih, tallyAt_apply, List.count_cons]
    by_cases h : d = yDev c
    · subst h
      rw [if_pos rfl, if_pos rfl, yy]
      by_cases hk : k' = k
      · subst hk; rw [if_pos ⟨rfl, rfl⟩, if_pos (beq_self_eq_true _), Nat.mul_add, Nat.mul_one]
      · rw [if_neg (fun e => hk (dCell_inj e.1).2.2.symm), if_neg (fun e => hk (eq_of_beq e))]
        rfl
    · rw [if_neg h, if_neg h, if_neg (fun e => h (by rw [(dCell_inj e.1).1, yy]))]

/-- The first exchange owes nothing on any other cell. -/
theorem owedX_none (d : Dev nD) (ks : List (Fin 16)) (g : GSem nD τ sig) (h : ∀ k, g ≠ dCell (xDev d) 1 k) : owedX d ks g () = 0 :=
  Nat.eq_zero_of_not_pos fun hp => by obtain ⟨k, e⟩ := owedX_pos hp; exact h k e
/-- The second exchange owes nothing on any other cell. -/
theorem owedY_none (d : Dev nD) (ks : List (Fin 16)) (g : GSem nD τ sig) (h : ∀ k, g ≠ dCell (yDev d) 3 k) : owedY d ks g () = 0 :=
  Nat.eq_zero_of_not_pos fun hp => by obtain ⟨k, e⟩ := owedY_pos hp; exact h k e
/-- Each chunk is listed once. -/
theorem once (k : Fin 16) : chunks.count k = 1 := by revert k; decide

/-- What a device owes at launch, cell by cell: both exchanges, and the two barriers. -/
theorem owed_split (d : Dev nD) (g : GSem nD τ sig) : O₀ d g () = owedY d chunks g () + owedX d chunks g ()
    + (if g = barCell (yDev d) then 1 else 0) + (if g = barCell (xDev d) then 1 else 0) := by
  unfold O₀ O₁ O₂
  rw [Pi.add_apply, Finsupp.add_apply, Pi.add_apply, Finsupp.add_apply, Pi.add_apply, Finsupp.add_apply, tallyAt_apply, tallyAt_apply]
  simp only [and_true]
/-- On an arrival cell along `x` the neighbour owes one copy, and no other device owes anything. -/
theorem owed_x (d c : Dev nD) (k : Fin 16) : O₀ d (dCell c 1 k) () = if d = xDev c then N else 0 := by
  rw [owed_split, owedX_at, owedY_none d chunks _ (fun k' e => absurd (dCell_inj e).2.1 (by decide)), if_neg dCell_ne_bar, if_neg dCell_ne_bar, once, Nat.mul_one]
  omega
/-- On an arrival cell along `y` the neighbour owes one copy, and no other device owes anything. -/
theorem owed_y (d c : Dev nD) (k : Fin 16) : O₀ d (dCell c 3 k) () = if d = yDev c then N else 0 := by
  rw [owed_split, owedY_at, owedX_none d chunks _ (fun k' e => absurd (dCell_inj e).2.1 (by decide)), if_neg dCell_ne_bar, if_neg dCell_ne_bar, once, Nat.mul_one]
  rfl
/-- On a barrier cell each of the two neighbours owes one unit. -/
theorem owed_bar (d c : Dev nD) : O₀ d (barCell c) () = (if d = yDev c then 1 else 0) + (if d = xDev c then 1 else 0) := by
  have ey : (barCell c = barCell (yDev d)) ↔ d = yDev c := ⟨fun h => by rw [barCell_inj h, yy], fun h => by rw [h, yy]⟩
  have ex : (barCell c = barCell (xDev d)) ↔ d = xDev c := ⟨fun h => by rw [barCell_inj h, xx], fun h => by rw [h, xx]⟩
  rw [owed_split, owedX_none d chunks _ (fun _ e => dCell_ne_bar e.symm), owedY_none d chunks _ (fun _ e => dCell_ne_bar e.symm)]
  simp only [ey, ex, Nat.zero_add]

/-- All devices together owe one copy on an arrival cell along `x`. -/
theorem credit_x (c : Dev nD) (k : Fin 16) :
    tallyOn (dCell c 1 k) (launchCredit (Pipeline.owing O₀) 0 (dCell c 1 k)) = (tallyAt (dCell c 1 k) () N : CellTallies nD τ sig Unit) := by
  unfold tallyAt; refine congrArg _ (Finsupp.ext fun u => ?_); cases u
  rw [Pipeline.launchCredit_owing, Finsupp.single_eq_same, Finset.sum_congr rfl fun d _ => owed_x d c k, Finset.sum_ite_eq' Finset.univ (xDev c) fun _ => N,
    if_pos (Finset.mem_univ _)]
/-- All devices together owe one copy on an arrival cell along `y`. -/
theorem credit_y (c : Dev nD) (k : Fin 16) :
    tallyOn (dCell c 3 k) (launchCredit (Pipeline.owing O₀) 0 (dCell c 3 k)) = (tallyAt (dCell c 3 k) () N : CellTallies nD τ sig Unit) := by
  unfold tallyAt; refine congrArg _ (Finsupp.ext fun u => ?_); cases u
  rw [Pipeline.launchCredit_owing, Finsupp.single_eq_same, Finset.sum_congr rfl fun d _ => owed_y d c k, Finset.sum_ite_eq' Finset.univ (yDev c) fun _ => N,
    if_pos (Finset.mem_univ _)]
/-- All devices together owe two units on a barrier cell. -/
theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yDev c) fun _ => 1, Finset.sum_ite_eq' Finset.univ (xDev c) fun _ => 1, if_pos (Finset.mem_univ _), if_pos (Finset.mem_univ _)]

/-- The credits that a device is given at launch cover its waits at the barrier and for its arrivals. -/
theorem deal_claims (c : Dev nD) : (Pipeline.launchCred O₀ c : sProp 𝕄) ⊢ iprop(cred (tallyAt (barCell c) () 2) ∗ copyCreds c) := by
  unfold Pipeline.launchCred copyCreds
  rw [bigSep_univ_at _ (SemLoc.reg barS), credit_bar]
  refine sep_mono_right ?_
  have hs : (Finset.univ.map (⟨osem, osem_facts.inj⟩ : Fin 4 × Fin 16 ↪ SemLoc sig)) ⊆ Finset.univ.erase (SemLoc.reg barS) := fun q hq => by
    obtain ⟨x, -, rfl⟩ := Finset.mem_map.mp hq
    refine Finset.mem_erase.mpr (And.intro ?_ (Finset.mem_univ _))
    intro h; exact nomatch h
  refine (BI.bigSep_subset hs).trans ?_
  rw [bigSep_map]
  refine (Entails.of_eq (cells_eq fun j k => (cred (tallyOn (dCell c j k) (launchCredit (Pipeline.owing O₀) 0 (dCell c j k))) : sProp 𝕄))).trans ?_
  simp only [credit_x, credit_y]
  iintro ⟨-, H1, -, H3⟩
  isplitl [H1] <;> iassumption

end Cert.Proof
end
-- ==== Proof.Run.lean ====
module

public import proofs.«01_k».proof.Proof.Deal
public import Idealize.ShloMosaic.Lib.Quiescent

/-! The run: the program on the four devices, from any memory with its counters at zero. -/

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-- The algebra's launch state. -/
def u₀ : UU := (initOf (Pipeline.cells cfgs cellOf_inj) (Pipeline.launchToks cfgs cellOf_inj), launchOf barCells copyCells duties)
/-- The protocol's launch state, kept on device 0 until it is dealt. -/
def atZero (c : Dev nD) : sProp 𝕄 := if c = 0 then BI.own (ER (launchOf barCells copyCells duties)) else iprop(emp)
/-- Device 0 keeps all of it. -/
theorem atZero_all : bigSep Finset.univ (atZero (F := F)) = BI.own (ER (launchOf barCells copyCells duties)) := by
  rw [bigSep_univ_at _ (0 : Dev nD), bigSep_congr (s := Finset.univ.erase (0 : Dev nD)) (Ψ := fun _ => (BI.emp : sProp 𝕄))
    fun c hc => by unfold atZero; rw [if_neg (Finset.ne_of_mem_erase hc)]; rfl, BI.bigSep_emp_const]
  unfold atZero; rw [if_pos rfl]
  exact BI.equiv_iff.mp sep_emp

/-- What every device may consult from the start. -/
def shared (κ : GSem nD τ sig → ℕ) : sProp 𝕄 := iprop(invs (half m) κ ∗ bigSep barCells fun g => reached ER g 0)
/-- What all may consult may be used again and again. -/
instance shared_persistent (κ : GSem nD τ sig → ℕ) : BI.Persistent (shared m κ) := by unfold shared; infer_instance
/-- Every barrier cell is in its first round. -/
theorem reached_bar (c : Dev nD) : (bigSep barCells fun g => (reached ER g 0 : sProp 𝕄)) ⊢ reached ER (barCell c) 0 :=
  bigSep_elim (Finset.mem_map_of_mem barEmb (Finset.mem_univ c))

/-- What device `c` alone holds of the protocol. -/
def own (c : Dev nD) : sProp 𝕄 :=
  iprop(atPos ER (barCell c) 0 ∅ 0 ∗ (bigSep Finset.univ fun x : Fin 4 × Fin 16 => openTok ER (dCell c x.1 x.2))
    ∗ ((dutyTok ER (barCell (xDev c)) 0 false ∗ dutyTok ER (barCell (yDev c)) 0 true) ∗ copyToks c))
/-- And of the launch. -/
def bundle (c : Dev nD) : sProp 𝕄 :=
  iprop(StableHlo.held (c : Thread nD τ) (Pipeline.ucRefs τ sig) (V0 m c) ∗ (cred (tallyAt (barCell c) () 2) ∗ copyCreds c)
    ∗ owes (c : Thread nD τ) (O₀ c) ∅ ∗ ∃ r, prngReg c r)

/-- What rides beside the buffers: up to the call, and after it. -/
def ride : Fin 2 → Dev nD → sProp 𝕄
  | 0, c => iprop(talk m c ∗ (∃ r, prngReg c r) ∗ ∃ W, owes (c : Thread nD τ) (O₀ c) W)
  | 1, c => iprop(semVal (barCell c) 0 ∗ ∃ W, owes (c : Thread nD τ) (0 : CellTallies nD τ sig Unit) W)
/-- What device `c` starts the program with. -/
def first (c : Dev nD) : sProp 𝕄 := iprop(StableHlo.held (c : Thread nD τ) (Pipeline.ucRefs τ sig) (V0 m c) ∗ ride m 0 c)
/-- What device `c` ends the program with. -/
def last (c : Dev nD) : sProp 𝕄 := iprop(StableHlo.held (c : Thread nD τ) (Pipeline.ucRefs τ sig) (Vend m c) ∗ semVal (barCell c) 0)

/-- Dealt shares make what a device starts with. -/
theorem first_intro (κ : GSem nD τ sig → ℕ) (c : Dev nD) : iprop(shared m κ ∗ (own c ∗ bundle m c)) ⊢ first m c := by
  unfold shared own bundle first ride talk barStart
  iintro ⟨⟨#HI, #HR⟩, ⟨Hat, Ho, ⟨Hx, Hy⟩, HT⟩, Hh, ⟨H2, HC⟩, HO, Hp⟩
  isplitl [Hh]; · iexact Hh
  isplitr [HO Hp]
  · isplitr; · (iexists κ; iexact HI)
    isplitl [H2 Hat Hx Hy]
    · isplitl [H2]; · iexact H2
      isplitl [Hat]; · iexact Hat
      isplitr; · iapply (reached_bar (F := F) (xDev c)); iexact HR
      isplitr; · iapply (reached_bar (F := F) (yDev c)); iexact HR
      isplitl [Hx] <;> iassumption
    isplitl [Ho]; · iexact Ho
    isplitl [HT] <;> iassumption
  isplitl [Hp]; · iexact Hp
  iexists ∅; iexact HO

/-- The barrier counter is the one counter that outlives the call. -/
theorem unscoped_eq : ∀ sm : SemLoc sig, sm.isScoped .tc = false → sm = .reg barS := by decide +kernel
/-- So the counters that outlive the call are the barrier's. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- What the launch gives a device, as its bundle and what goes to the protocol. -/
theorem core_split (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ atZero c)
    ⊢ (iprop(bundle m c ∗ (semVal (barCell c) 0 ∗ atZero c)) : sProp 𝕄) := by
  rw [show unscopedBufs c (fun b => m ((c : Thread nD τ).loc b)) = StableHlo.held (c : Thread nD τ) (Pipeline.ucRefs τ sig) (V0 m c) from
    Pipeline.unscopedBufs_held c (V0 m c), unscopedSems0_eq]
  unfold bundle
  iintro ⟨Hh, Hb, HO, HC, Hp, HG⟩
  ihave HC := (deal_claims (F := F) c) $$ HC
  isplitl [Hh HO HC Hp]
  · isplitl [Hh]; · iexact Hh
    isplitl [HC]; · iexact HC
    isplitl [HO]; · iexact HO
    iexists (ρ c); iexact Hp
  isplitl [Hb] <;> iassumption

/-- The launch deals each device what it starts with. -/
theorem init : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ atZero c)) ∗ levAts L lv)
    ⊢ (|={Set.univ}=> bigSep Finset.univ (first m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have ho : bigSep copyCells (fun g => (openTok ER g : sProp 𝕄))
      ⊢ bigSep Finset.univ (fun c : Dev nD => bigSep Finset.univ fun x : Fin 4 × Fin 16 => (openTok ER (dCell c x.1 x.2) : sProp 𝕄)) :=
    Entails.of_eq (by rw [bigSep_map, bigSep_univ_prod]; rfl)
  have hs : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ atZero c))
      ⊢ (bigSep Finset.univ fun c : Dev nD => iprop(bundle m c ∗ (semVal (barCell c) 0 ∗ atZero c)) : sProp 𝕄) := bigSep_mono fun c _ => core_split m ρ c
  have hg : iprop(((bigSep Finset.univ fun c : Dev nD => atPos ER (barCell c) 0 ∅ 0)
        ∗ (bigSep Finset.univ fun c : Dev nD => bigSep Finset.univ fun x : Fin 4 × Fin 16 => openTok ER (dCell c x.1 x.2))
        ∗ (bigSep Finset.univ fun c : Dev nD => iprop((dutyTok ER (barCell (xDev c)) 0 false ∗ dutyTok ER (barCell (yDev c)) 0 true) ∗ copyToks c)))
      ∗ bigSep Finset.univ fun c : Dev nD => bundle m c)
      ⊢ (bigSep Finset.univ fun c : Dev nD => iprop(own c ∗ bundle m c) : sProp 𝕄) :=
    Entails.of_eq (by unfold own; rw [← bigSep_sep', ← bigSep_sep', ← bigSep_sep'])
  iintro ⟨H, -⟩
  ihave H := hs $$ H
  ihave H := (Entails.of_eq (bigSep_sep' (s := Finset.univ) (Φ := fun c : Dev nD => bundle m c) (Ψ := fun c => iprop(semVal (barCell c) 0 ∗ atZero c)))) $$ H
  icases H with ⟨HB, H⟩
  ihave H := (Entails.of_eq (bigSep_sep' (s := Finset.univ) (Φ := fun c : Dev nD => (semVal (barCell c) 0 : sProp 𝕄)) (Ψ := atZero))) $$ H
  icases H with ⟨Hv, HG⟩
  ihave Hu := (Entails.of_eq (atZero_all (F := F))) $$ HG
  imod (Rounds.fund_launch ER (Rd (half m)) disjoint_cells (fun g _ h => h) duties) $$ [Hv Hu] with ⟨%κ, -, #HI, #HR, Hat, Hop, Htok⟩
  · isplitl [Hv]
    · iapply hv $$ Hv
    · iexact Hu
  imodintro
  iapply (bigSep_with_persistent (R := shared m κ) (Φ := fun c => iprop(own c ∗ bundle m c)) fun c _ => first_intro m κ c)
  isplitr
  · unfold shared invs
    isplitr; · iexact HI
    iexact HR
  ihave Hat := hat $$ Hat
  ihave Hop := ho $$ Hop
  ihave Htok := (deal_duties (F := F)) $$ Htok
  iapply hg
  isplitr [HB]
  · isplitl [Hat]; · iexact Hat
    isplitl [Hop] <;> iassumption
  iexact HB

/-! ## The run -/

set_option backward.isDefEq.respectTransparency.types false in
/-- From any memory with zero counters every weakly fair run ends, and it ends with each device's result holding the sum of the half
    slices, its argument as it was, and every counter at zero. -/
theorem run_main : θ_run defs (onTc (τ := τ) (main (F := F))) ⟨m, fun _ => 0, ρ⟩ (fun r =>
    (∀ c : Dev nD, r.2.mem ((c : Thread nD τ).loc main_v10) = outV (half m) c
      ∧ r.2.mem ((c : Thread nD τ).loc main_arg0) = m ((c : Thread nD τ).loc main_arg0)) ∧ r.2.sem = fun _ => 0) :=
  Pipeline.θ_run_regions_kit_dev_sems (pcfgs (F := F)) adm (pdats m) () cellOf_inj EP defs₀ 𝒱₀ L lv m ρ main
    (segs m 𝒱₀ L lv (ride m) () (pdats m) (call m))
    (fun c Q => by
      rewrite [main_chain c, Pipeline.Seg.run_eq_chain,
        show (segs m 𝒱₀ L lv (ride m) () (pdats m) (call m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne atZero u₀
    (by
      unfold u₀
      iintro Hu
      ihave H := (ownU_pair _ _) $$ Hu
      icases H with ⟨HP, HX⟩
      imodintro
      isplitl [HP]; · iexact HP
      rw [atZero_all]; iexact HX)
    (first m) (last m)
    (fun c => ⟨.rfl, call_pre m c, (call_post m c).trans (by
      unfold last
      iintro ⟨Hh, Hb, HO⟩
      isplitr [HO]
      · isplitl [Hh] <;> iassumption
      iexact HO)⟩)
    (init m ρ)
    (fun c s => (s.mem ((c : Thread nD τ).loc main_v10) = outV (half m) c ∧ s.mem ((c : Thread nD τ).loc main_arg0) = m ((c : Thread nD τ).loc main_arg0))
      ∧ s.sem (barCell c) = 0)
    (fun c s' => by
      unfold last StableHlo.held
      iintro ⟨⟨Hh, Hb⟩, HSI⟩
      icombine HSI Hb gives %hb
      ihave Hr := (pointsTo_read_all (Pipeline.ucRefs τ sig) (fun b => ((c : Thread nD τ).1, b)) (Vend m c) s') $$ [Hh HSI]
      · isplitl [Hh] <;> iassumption
      icases Hr with ⟨%h, HSI⟩
      imodintro
      isplitr
      · ipureintro
        exact ⟨⟨(h (Proc.devRef .tc main_v10) (Finset.mem_filter.mpr ⟨StableHlo.devRef_mem_tcRefs main_v10, by decide⟩)).trans (Vend_result m c),
          (h (Proc.devRef .tc main_arg0) (Finset.mem_filter.mpr ⟨StableHlo.devRef_mem_tcRefs main_arg0, by decide⟩)).trans (Vend_arg0 m c)⟩, by simpa using hb⟩
      iexact HSI)
    (fun s h hs => ⟨fun c => (h c).1, sem_eq_zero hs fun c sm hsm => by
      obtain rfl := unscoped_eq sm hsm
      exact (h c).2⟩)

end Cert.Proof
end
-- ==== Proof.Same.lean ====
/- The program and its idealization, which rewrites nothing: equal texts, and so equal programs over any
   float values. -/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

variable (F : FTy → Type) [FloatOps F]

/-- The two texts give each kernel label the same body. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (_, _) => rfl

/-- The two texts give every label the same body. -/
theorem defs_eq : Cert.Kernel.defs (F := F) = Cert.KernelIdeal.defs (F := F) :=
  congrArg (Pipeline.defs Cert.KernelIdeal.pcfgs) (bodies_eq F)

/-- The two texts have the same main program. -/
theorem main_eq : Cert.Kernel.main (F := F) = Cert.KernelIdeal.main (F := F) := rfl

end Cert.Proof

end
-- ==== Proof.Slice.lean ====
module

public import proofs.«01_k».proof.Proof.Region
public import Idealize.ShloMosaic.Lib.StableHlo.Run
public import Idealize.ShloMosaic.Lib.DynamicIndex
public import Idealize.ShloMosaic.Lib.Pointwise

/-! The half slice the host cuts on each device, element by element. -/

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The row a device's half starts at, as the host computes it from the device's number. -/
def startWord (c : Dev nD) : IVec S_ 32 :=
  select (cmpi .slt (muli (Host.remui (Host.divui (constantI S_ 32 (Dev.word c)) (constantI S_ 32 1#32)) (constantI S_ 32 2#32)) (constantI S_ 32 1024#32)) (constantI S_ 32 0#32))
    (addi (muli (Host.remui (Host.divui (constantI S_ 32 (Dev.word c)) (constantI S_ 32 1#32)) (constantI S_ 32 2#32)) (constantI S_ 32 1024#32)) (constantI S_ 32 2048#32))
    (muli (Host.remui (Host.divui (constantI S_ 32 (Dev.word c)) (constantI S_ 32 1#32)) (constantI S_ 32 2#32)) (constantI S_ 32 1024#32))

/-- Device `c`'s half starts at row 0 or at row 1024. -/
theorem start_is (c : Dev nD) : (startWord c (Shape.Idx.first h_S_)).toInt = ((c.val % 2 * 1024 : ℕ) : Int) := by
  revert c; decide +kernel

/-- The half slice is the slice of the argument at that row. -/
theorem half_slice (c : Dev nD) : half m c = Host.dynamicSlice S1024x512 (m ((c : Thread nD τ).loc main_arg0))
    (fun k => ((![startWord c, constantI S_ 32 0#32] : Fin 2 → IVec S_ 32) k (Shape.Idx.first h_S_)).toInt) sliceFits_S2048x512_S1024x512 := by
  show StableHlo.after (hostOps0 c) (V0 m c) (Proc.devRef .tc main_v9) = _
  unfold hostOps0
  after_results
  refine congrArg (fun st => Host.dynamicSlice S1024x512 (m ((c : Thread nD τ).loc main_arg0)) st sliceFits_S2048x512_S1024x512) (funext fun k => ?_)
  match k with
  | ⟨0, _⟩ =>
    refine congrArg (fun v : IVec S_ 32 => (v (Shape.Idx.first h_S_)).toInt) ((cast_eq _ _).trans ?_)
    show StableHlo.after ((hostOps0 c).take 14) (V0 m c) (Proc.devRef .tc main_v8) = startWord c
    simp only [hostOps0, List.take_succ_cons, List.take_zero]
    after_results
    rfl
  | ⟨1, _⟩ =>
    refine congrArg (fun v : IVec S_ 32 => (v (Shape.Idx.first h_S_)).toInt) ((cast_eq _ _).trans ?_)
    show StableHlo.after ((hostOps0 c).take 14) (V0 m c) (Proc.devRef .tc main_c_4) = constantI S_ 32 0#32
    simp only [hostOps0, List.take_succ_cons, List.take_zero]
    after_results

/-- The half lies within the argument. -/
theorem rows_fit (c : Dev nD) : S2048x512.Slices ![c.val % 2 * 1024, 0] S1024x512 := by
  revert c; decide

/-- The half slice: row `r` of device `c`'s half is row `r` past the half's start of its argument. -/
theorem half_at (c : Dev nD) (i : S1024x512.Idx) (j : S2048x512.Idx) (h0 : (j 0).val = c.val % 2 * 1024 + (i 0).val) (h1 : (j 1).val = (i 1).val) :
    half m c i = m ((c : Thread nD τ).loc main_arg0) j := by
  rw [half_slice, Host.dynamicSlice_eq_extractStridedSlice S1024x512 _ _ ![c.val % 2 * 1024, 0] _ (rows_fit c) fun a => by
    match a with
    | ⟨0, _⟩ => exact start_is c
    | ⟨1, _⟩ => rfl]
  refine congrArg (m ((c : Thread nD τ).loc main_arg0)) ?_
  funext a; apply Fin.ext
  match a with
  | ⟨0, _⟩ => exact h0.symm
  | ⟨1, _⟩ => exact (Nat.zero_add _).trans h1.symm

/-- The result, over the argument: at every row, the rows of the device holding it and of that device's `x` neighbour. -/
theorem outV_at (c : Dev nD) (i : S2048x512.Idx) : outV (half m) c i
    = FloatOps.addf (m ((rowDev c (i 0) : Thread nD τ).loc main_arg0) i) (m ((xDev (rowDev c (i 0)) : Thread nD τ).loc main_arg0) i) := by
  have hd : (rowDev c (i 0)).val % 2 = (i 0).val / 1024 := by
    have : (i 0).val < 2048 := (i 0).isLt
    show (2 * (c.val / 2) + (i 0).val / 1024) % 2 = _
    omega
  have hx : (xDev (rowDev c (i 0))).val % 2 = (i 0).val / 1024 := by
    have h4 : (rowDev c (i 0)).val < 4 := (rowDev c (i 0)).isLt
    rw [xDev_val]; omega
  have hr : (i 0).val = (i 0).val / 1024 * 1024 + (i 0).val % 1024 := by omega
  show FloatOps.addf (half m (rowDev c (i 0)) (rowIdx i)) (half m (xDev (rowDev c (i 0))) (rowIdx i)) = _
  rw [half_at m _ (rowIdx i) i (by rw [hd]; exact hr) rfl, half_at m _ (rowIdx i) i (by rw [hx]; exact hr) rfl]

end Cert.Proof
end
-- ==== Proof.Value.lean ====
module

public import proofs.«01_k».proof.Proof.Slice
public import proofs.«01_k».proof.Proof.Gen.ReferenceIdeal.Run
public import Idealize.ShloMosaic.Lib.Pointwise
public import Idealize.ShloMosaic.Lib.Layout

/-! The reference's sum and the devices' sum, over the extended reals, are the same. -/

@[expose] public section

noncomputable section

namespace Cert.Proof

open Idealize.ShloMosaic Idealize.ShloMosaic.TcCoe

/-- The whole array: two blocks of 2048 rows. -/
abbrev Whole : Type := (⟨2, ![4096, 512]⟩ : Shape).Idx → EReal

/-- Row `i` of block `k`. -/
def wholeIdx (k : Fin 2) (i : (⟨2, ![2048, 512]⟩ : Shape).Idx) : (⟨2, ![4096, 512]⟩ : Shape).Idx :=
  fun a => match a with
    | ⟨0, _⟩ => (⟨k.val * 2048 + (i 0).val, by have : (i 0).val < 2048 := (i 0).isLt; have := k.isLt; omega⟩ : Fin 4096)
    | ⟨1, _⟩ => (⟨(i 1).val, (i 1).isLt⟩ : Fin 512)

/-- What the reference leaves. -/
def total (G : FVec Ideal Cert.ReferenceIdeal.S4096x512 .bf16) : FVec Ideal Cert.ReferenceIdeal.S2048x512 .bf16 :=
  truncf .bf16 (Host.reduceAdd (extf .f32 (shapeCast Cert.ReferenceIdeal.S2x2048x512 G Cert.ReferenceIdeal.Gen.shapeCasts_S4096x512_S2x2048x512) Cert.ReferenceIdeal.Gen.bitsLt_bf16_f32)
    (constant Cert.ReferenceIdeal.S_ .f32 0x00000000#32) Cert.ReferenceIdeal.Gen.reducesTo_S2x2048x512_S2048x512_d0 Cert.ReferenceIdeal.Gen.h_S_) Cert.ReferenceIdeal.Gen.bitsLt_bf16_f32

/-- An element of the reference's result is the sum of the two blocks' elements. -/
theorem total_at (G : FVec Ideal Cert.ReferenceIdeal.S4096x512 .bf16) (i : (⟨2, ![2048, 512]⟩ : Shape).Idx) :
    total G i = (G (wholeIdx 0 i) + G (wholeIdx 1 i) : EReal) := by
  unfold total
  pointwise
  rw [Fin.sum_univ_two]
  refine congrArg₂ (· + ·) (congrArg G ?_) (congrArg G ?_) <;>
  · funext a
    match a with
    | ⟨0, _⟩ => rfl
    | ⟨1, _⟩ => rfl

open Cert.KernelIdeal in
/-- What a device holds of the whole array: the block its `x` coordinate names. -/
theorem part_at (G : Whole) (c : Dev nD) (k : Fin 2) (hk : c.val / 2 = k.val) (i : (⟨2, ![2048, 512]⟩ : Shape).Idx) :
    (Layout.blockN ⟨2, ![2048, 512]⟩ ⟨2, ![4096, 512]⟩ (Layout.meshBlock [2, 2] ![[0], []] c) G : (⟨2, ![2048, 512]⟩ : Shape).Idx → EReal) i
      = G (wholeIdx k i) := by
  have hc : ∀ c : Dev nD, Layout.meshLin [2, 2] c.val [0] = c.val / 2 := by decide
  rw [Layout.blockN_apply]
  refine congrArg G (funext fun a => Fin.ext ?_)
  rw [Layout.TilesN.idx_val]
  match a with
  | ⟨0, _⟩ =>
    show Layout.meshLin [2, 2] c.val [0] * 2048 + (i 0).val = k.val * 2048 + (i 0).val
    rw [hc, hk]
  | ⟨1, _⟩ =>
    show 0 * 512 + (i 1).val = (i 1).val
    omega

open Cert.KernelIdeal in
/-- Every device ends with the reference's sum: it adds the same two rows, in one order or the other. -/
theorem outV_total (m : (ℓ : Loc nD τ sig) → Buf (Elt Ideal) ℓ) (G : Whole)
    (h : ∀ c : Dev nD, m ((c : Thread nD τ).loc main_arg0)
      = Layout.blockN ⟨2, ![2048, 512]⟩ ⟨2, ![4096, 512]⟩ (Layout.meshBlock [2, 2] ![[0], []] c) G)
    (c : Dev nD) : outV (half m) c = total G := by
  funext i
  have h4 : c.val < 4 := c.isLt
  have hi : (i 0).val < 2048 := (i 0).isLt
  have hd : (rowDev c (i 0)).val / 2 = c.val / 2 := by
    show (2 * (c.val / 2) + (i 0).val / 1024) / 2 = _
    omega
  have hx : (xDev (rowDev c (i 0))).val / 2 = 1 - c.val / 2 := by
    have h4' : (rowDev c (i 0)).val < 4 := (rowDev c (i 0)).isLt
    rw [xDev_val]; omega
  have hadd : ∀ a b : EReal, (FloatOps.addf (F := Ideal) (φ := .bf16) a b : EReal) = a + b := fun _ _ => rfl
  rw [outV_at, h, h, total_at]
  refine (hadd _ _).trans ?_
  rcases (by omega : c.val / 2 = 0 ∨ c.val / 2 = 1) with e | e
  · rw [part_at G _ 0 (by rw [hd, e]; rfl) i, part_at G _ 1 (by rw [hx, e]; rfl) i]
  · rw [part_at G _ 1 (by rw [hd, e]; rfl) i, part_at G _ 0 (by rw [hx, e]; rfl) i]
    exact add_comm _ _

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem

/-- The program as run on the machine's words keeps its argument and leaves every counter at zero: its text is
    the one whose run is proved over any float values. -/
theorem frame_kernel : Cert.quiescent_Kernel := fun m ρ _ => by
  have h := (θ_run Cert.KernelIdeal.defs _ _).mono
    (Q' := fun r => (∀ c : Dev Cert.KernelIdeal.nD, r.2.mem ((c.tc : Thread _ Cert.KernelIdeal.τ).loc Cert.KernelIdeal.main_arg0)
      = m ((c.tc : Thread _ Cert.KernelIdeal.τ).loc Cert.KernelIdeal.main_arg0)) ∧ r.2.sem = fun _ => 0)
    (fun _ h => ⟨fun c => (h.1 c).2, h.2⟩) (run_main (F := Bits) m ρ)
  rw [← defs_eq, ← main_eq] at h
  exact h

/-- The program over exact values keeps its argument and leaves every counter at zero. -/
theorem frame_ideal : Cert.quiescent_KernelIdeal := fun m ρ _ =>
  (θ_run Cert.KernelIdeal.defs _ _).mono (fun _ h => ⟨fun c => (h.1 c).2, h.2⟩) (run_main (F := Ideal) m ρ)

/-- The reference has no counters, so none is left up. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

/-- Every device's result is the reference's. -/
theorem algebraic : Cert.algebraic_KernelIdeal_ReferenceIdeal := fun m ρ m' ρ' _ hin =>
  ⟨total (m' ((0 : Dev Cert.ReferenceIdeal.nD).tc.loc Cert.ReferenceIdeal.main_arg0)),
    (θ_run Cert.KernelIdeal.defs _ _).mono (fun _ h c => ⟨(h.1 c).1.trans (outV_total m _ hin c), (h.1 c).2⟩) (run_main (F := Ideal) m ρ),
    (θ_run Cert.ReferenceIdeal.defs _ _).mono (fun _ h => ⟨(h 0).1, (h 0).2⟩) (Cert.ReferenceIdeal.Value.run m' ρ')⟩

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
